-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_ordered [hPre_boxes_ordered : Cert.Pre_boxes_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_ordered [hPre_boxes_ordered : Cert.Pre_boxes_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_ordered [hKernelIdeal : Cert.KernelIdeal.Facts] [hPre_boxes_ordered : Cert.Pre_boxes_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_ordered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_ordered [hReferenceIdeal : Cert.ReferenceIdeal.Facts] [hPre_boxes_ordered : Cert.Pre_boxes_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_boxes_ordered [hKernelIdeal : Cert.KernelIdeal.Facts] [hReferenceIdeal : Cert.ReferenceIdeal.Facts] [hPre_boxes_ordered : Cert.Pre_boxes_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_ordered : Cert.Pre_boxes_ordered.Facts),
    quiescent_Kernel (hKernel := hKernel)
    ∧ quiescent_KernelIdeal (hKernelIdeal := hKernelIdeal)
    ∧ quiescent_KernelIdeal_pre_boxes_ordered (hKernelIdeal := hKernelIdeal) (hPre_boxes_ordered := hPre_boxes_ordered)
    ∧ quiescent_ReferenceIdeal (hReferenceIdeal := hReferenceIdeal)
    ∧ quiescent_ReferenceIdeal_pre_boxes_ordered (hReferenceIdeal := hReferenceIdeal) (hPre_boxes_ordered := hPre_boxes_ordered)
    ∧ preserves_Kernel_KernelIdeal
    ∧ algebraic_KernelIdeal_ReferenceIdeal_pre_boxes_ordered (hKernelIdeal := hKernelIdeal) (hReferenceIdeal := hReferenceIdeal) (hPre_boxes_ordered := hPre_boxes_ordered)
-- ==== Pre_boxes_ordered.lean ====
abbrev S5000x14 : Shape := ⟨2, ![5000, 14]⟩
abbrev S5000x1 : Shape := ⟨2, ![5000, 1]⟩
abbrev S5000 : Shape := ⟨1, ![5000]⟩

class Facts : Prop where
  slices_S5000x14_S5000x1_0_2 : S5000x14.Slices ![0, 2] S5000x1
  shapeCasts_S5000x1_S5000 : S5000x1.ShapeCasts S5000
  slices_S5000x14_S5000x1_0_4 : S5000x14.Slices ![0, 4] S5000x1
  slices_S5000x14_S5000x1_0_3 : S5000x14.Slices ![0, 3] S5000x1
  slices_S5000x14_S5000x1_0_5 : S5000x14.Slices ![0, 5] S5000x1

variable [Facts]

def fn {F : FTy → Type} [FloatOps F] (main_arg0 : FVec F S5000x14 .f32) (main_arg1 : FVec F S5000x14 .f32) : IVec S5000 1 :=
  let main_v0 : FVec F S5000x1 .f32 := (extractStridedSlice S5000x1 ![0, 2] · slices_S5000x14_S5000x1_0_2) main_arg0
  let main_v1 : FVec F S5000 .f32 := shapeCast S5000 main_v0 shapeCasts_S5000x1_S5000
  let main_v2 : FVec F S5000x1 .f32 := (extractStridedSlice S5000x1 ![0, 4] · slices_S5000x14_S5000x1_0_4) main_arg0
  let main_v3 : FVec F S5000 .f32 := shapeCast S5000 main_v2 shapeCasts_S5000x1_S5000
  let main_v4 : IVec S5000 1 := cmpf .ole main_v1 main_v3
  let main_v5 : FVec F S5000x1 .f32 := (extractStridedSlice S5000x1 ![0, 3] · slices_S5000x14_S5000x1_0_3) main_arg0
  let main_v6 : FVec F S5000 .f32 := shapeCast S5000 main_v5 shapeCasts_S5000x1_S5000
  let main_v7 : FVec F S5000x1 .f32 := (extractStridedSlice S5000x1 ![0, 5] · slices_S5000x14_S5000x1_0_5) main_arg0
  let main_v8 : FVec F S5000 .f32 := shapeCast S5000 main_v7 shapeCasts_S5000x1_S5000
  let main_v9 : IVec S5000 1 := cmpf .ole main_v6 main_v8
  let main_v10 : IVec S5000 1 := andi main_v4 main_v9
  let main_v11 : FVec F S5000x1 .f32 := (extractStridedSlice S5000x1 ![0, 2] · slices_S5000x14_S5000x1_0_2) main_arg1
  let main_v12 : FVec F S5000 .f32 := shapeCast S5000 main_v11 shapeCasts_S5000x1_S5000
  let main_v13 : FVec F S5000x1 .f32 := (extractStridedSlice S5000x1 ![0, 4] · slices_S5000x14_S5000x1_0_4) main_arg1
  let main_v14 : FVec F S5000 .f32 := shapeCast S5000 main_v13 shapeCasts_S5000x1_S5000
  let main_v15 : IVec S5000 1 := cmpf .ole main_v12 main_v14
  let main_v16 : FVec F S5000x1 .f32 := (extractStridedSlice S5000x1 ![0, 3] · slices_S5000x14_S5000x1_0_3) main_arg1
  let main_v17 : FVec F S5000 .f32 := shapeCast S5000 main_v16 shapeCasts_S5000x1_S5000
  let main_v18 : FVec F S5000x1 .f32 := (extractStridedSlice S5000x1 ![0, 5] · slices_S5000x14_S5000x1_0_5) main_arg1
  let main_v19 : FVec F S5000 .f32 := shapeCast S5000 main_v18 shapeCasts_S5000x1_S5000
  let main_v20 : IVec S5000 1 := cmpf .ole main_v17 main_v19
  let main_v21 : IVec S5000 1 := andi main_v15 main_v20
  let main_v22 : IVec S5000 1 := andi main_v10 main_v21
  main_v22
-- ==== Kernel.lean ====
abbrev S5000x14 : Shape := ⟨2, ![5000, 14]⟩
abbrev S80 : Shape := ⟨1, ![80]⟩
abbrev S10000x14 : Shape := ⟨2, ![10000, 14]⟩
abbrev S10000x4 : Shape := ⟨2, ![10000, 4]⟩
abbrev S10000x1 : Shape := ⟨2, ![10000, 1]⟩
abbrev S10000 : Shape := ⟨1, ![10000]⟩
abbrev S_ : Shape := ⟨0, ![]⟩
abbrev S10240 : Shape := ⟨1, ![10240]⟩
abbrev S128x80 : Shape := ⟨2, ![128, 80]⟩
abbrev S80x1 : Shape := ⟨2, ![80, 1]⟩
abbrev S80x128 : Shape := ⟨2, ![80, 128]⟩
abbrev S1 : Shape := ⟨1, ![1]⟩
abbrev S16x128 : Shape := ⟨2, ![16, 128]⟩
abbrev S40x128 : Shape := ⟨2, ![40, 128]⟩
abbrev S8x128 : Shape := ⟨2, ![8, 128]⟩
abbrev S1x128 : Shape := ⟨2, ![1, 128]⟩
abbrev S1x1x128 : Shape := ⟨3, ![1, 1, 128]⟩
abbrev S1x1x1 : Shape := ⟨3, ![1, 1, 1]⟩
abbrev S1x1 : Shape := ⟨2, ![1, 1]⟩
abbrev S1x80x128 : Shape := ⟨3, ![1, 80, 128]⟩

abbrev nBuf : Space → Nat
  | .hbm => 116
  | .vmem => 9
  | .smem => 0
  | _ => 0

abbrev bufTy : (tb : Table) → Fin (tcTables nBuf tb) → BufTy
  | .hbm, ⟨0, _⟩ => ⟨S5000x14, .f32⟩
  | .hbm, ⟨1, _⟩ => ⟨S5000x14, .f32⟩
  | .hbm, ⟨2, _⟩ => ⟨S80, .i32⟩
  | .hbm, ⟨3, _⟩ => ⟨S80, .i32⟩
  | .hbm, ⟨4, _⟩ => ⟨S80, .i32⟩
  | .hbm, ⟨5, _⟩ => ⟨S80, .i32⟩
  | .hbm, ⟨6, _⟩ => ⟨S80, .i32⟩
  | .hbm, ⟨7, _⟩ => ⟨S80, .i32⟩
  | .hbm, ⟨8, _⟩ => ⟨S10000x14, .f32⟩
  | .hbm, ⟨9, _⟩ => ⟨S10000x4, .f32⟩
  | .hbm, ⟨10, _⟩ => ⟨S10000x1, .f32⟩
  | .hbm, ⟨11, _⟩ => ⟨S10000, .f32⟩
  | .hbm, ⟨12, _⟩ => ⟨S10000x1, .f32⟩
  | .hbm, ⟨13, _⟩ => ⟨S10000, .f32⟩
  | .hbm, ⟨14, _⟩ => ⟨S_, .i32⟩
  | .hbm, ⟨15, _⟩ => ⟨S_, .f32⟩
  | .hbm, ⟨16, _⟩ => ⟨S10240, .f32⟩
  | .hbm, ⟨17, _⟩ => ⟨S128x80, .f32⟩
  | .hbm, ⟨18, _⟩ => ⟨S_, .i32⟩
  | .hbm, ⟨19, _⟩ => ⟨S80, .i32⟩
  | .hbm, ⟨20, _⟩ => ⟨S80, .i1⟩
  | .hbm, ⟨21, _⟩ => ⟨S_, .i32⟩
  | .hbm, ⟨22, _⟩ => ⟨S80, .i32⟩
  | .hbm, ⟨23, _⟩ => ⟨S80, .i32⟩
  | .hbm, ⟨24, _⟩ => ⟨S80, .i32⟩
  | .hbm, ⟨25, _⟩ => ⟨S80x1, .i32⟩
  | .hbm, ⟨26, _⟩ => ⟨S128x80, .f32⟩
  | .hbm, ⟨27, _⟩ => ⟨S80x128, .f32⟩
  | .hbm, ⟨28, _⟩ => ⟨S10000x1, .f32⟩
  | .hbm, ⟨29, _⟩ => ⟨S10000, .f32⟩
  | .hbm, ⟨30, _⟩ => ⟨S_, .i32⟩
  | .hbm, ⟨31, _⟩ => ⟨S_, .f32⟩
  | .hbm, ⟨32, _⟩ => ⟨S10240, .f32⟩
  | .hbm, ⟨33, _⟩ => ⟨S128x80, .f32⟩
  | .hbm, ⟨34, _⟩ => ⟨S_, .i32⟩
  | .hbm, ⟨35, _⟩ => ⟨S80, .i32⟩
  | .hbm, ⟨36, _⟩ => ⟨S80, .i1⟩
  | .hbm, ⟨37, _⟩ => ⟨S_, .i32⟩
  | .hbm, ⟨38, _⟩ => ⟨S80, .i32⟩
  | .hbm, ⟨39, _⟩ => ⟨S80, .i32⟩
  | .hbm, ⟨40, _⟩ => ⟨S80, .i32⟩
  | .hbm, ⟨41, _⟩ => ⟨S80x1, .i32⟩
  | .hbm, ⟨42, _⟩ => ⟨S128x80, .f32⟩
  | .hbm, ⟨43, _⟩ => ⟨S80x128, .f32⟩
  | .hbm, ⟨44, _⟩ => ⟨S10000x1, .f32⟩
  | .hbm, ⟨45, _⟩ => ⟨S10000, .f32⟩
  | .hbm, ⟨46, _⟩ => ⟨S_, .i32⟩
  | .hbm, ⟨47, _⟩ => ⟨S_, .f32⟩
  | .hbm, ⟨48, _⟩ => ⟨S10240, .f32⟩
  | .hbm, ⟨49, _⟩ => ⟨S128x80, .f32⟩
  | .hbm, ⟨50, _⟩ => ⟨S_, .i32⟩
  | .hbm, ⟨51, _⟩ => ⟨S80, .i32⟩
  | .hbm, ⟨52, _⟩ => ⟨S80, .i1⟩
  | .hbm, ⟨53, _⟩ => ⟨S_, .i32⟩
  | .hbm, ⟨54, _⟩ => ⟨S80, .i32⟩
  | .hbm, ⟨55, _⟩ => ⟨S80, .i32⟩
  | .hbm, ⟨56, _⟩ => ⟨S80, .i32⟩
  | .hbm, ⟨57, _⟩ => ⟨S80x1, .i32⟩
  | .hbm, ⟨58, _⟩ => ⟨S128x80, .f32⟩
  | .hbm, ⟨59, _⟩ => ⟨S80x128, .f32⟩
  | .hbm, ⟨60, _⟩ => ⟨S10000x1, .f32⟩
  | .hbm, ⟨61, _⟩ => ⟨S10000, .f32⟩
  | .hbm, ⟨62, _⟩ => ⟨S_, .i32⟩
  | .hbm, ⟨63, _⟩ => ⟨S_, .f32⟩
  | .hbm, ⟨64, _⟩ => ⟨S10240, .f32⟩
  | .hbm, ⟨65, _⟩ => ⟨S128x80, .f32⟩
  | .hbm, ⟨66, _⟩ => ⟨S_, .i32⟩
  | .hbm, ⟨67, _⟩ => ⟨S80, .i32⟩
  | .hbm, ⟨68, _⟩ => ⟨S80, .i1⟩
  | .hbm, ⟨69, _⟩ => ⟨S_, .i32⟩
  | .hbm, ⟨70, _⟩ => ⟨S80, .i32⟩
  | .hbm, ⟨71, _⟩ => ⟨S80, .i32⟩
  | .hbm, ⟨72, _⟩ => ⟨S80, .i32⟩
  | .hbm, ⟨73, _⟩ => ⟨S80x1, .i32⟩
  | .hbm, ⟨74, _⟩ => ⟨S128x80, .f32⟩
  | .hbm, ⟨75, _⟩ => ⟨S80x128, .f32⟩
  | .hbm, ⟨76, _⟩ => ⟨S_, .i32⟩
  | .hbm, ⟨77, _⟩ => ⟨S_, .f32⟩
  | .hbm, ⟨78, _⟩ => ⟨S10240, .f32⟩
  | .hbm, ⟨79, _⟩ => ⟨S128x80, .f32⟩
  | .hbm, ⟨80, _⟩ => ⟨S_, .i32⟩
  | .hbm, ⟨81, _⟩ => ⟨S80, .i32⟩
  | .hbm, ⟨82, _⟩ => ⟨S80, .i1⟩
  | .hbm, ⟨83, _⟩ => ⟨S_, .i32⟩
  | .hbm, ⟨84, _⟩ => ⟨S80, .i32⟩
  | .hbm, ⟨85, _⟩ => ⟨S80, .i32⟩
  | .hbm, ⟨86, _⟩ => ⟨S80, .i32⟩
  | .hbm, ⟨87, _⟩ => ⟨S80x1, .i32⟩
  | .hbm, ⟨88, _⟩ => ⟨S128x80, .f32⟩
  | .hbm, ⟨89, _⟩ => ⟨S80x128, .f32⟩
  | .hbm, ⟨90, _⟩ => ⟨S80x128, .f32⟩
  | .hbm, ⟨91, _⟩ => ⟨S_, .i32⟩
  | .hbm, ⟨92, _⟩ => ⟨S80, .i32⟩
  | .hbm, ⟨93, _⟩ => ⟨S80, .i1⟩
  | .hbm, ⟨94, _⟩ => ⟨S_, .i32⟩
  | .hbm, ⟨95, _⟩ => ⟨S80, .i32⟩
  | .hbm, ⟨96, _⟩ => ⟨S80, .i32⟩
  | .hbm, ⟨97, _⟩ => ⟨S80, .i32⟩
  | .hbm, ⟨98, _⟩ => ⟨S80x1, .i32⟩
  | .hbm, ⟨99, _⟩ => ⟨S80x128, .f32⟩
  | .hbm, ⟨100, _⟩ => ⟨S128x80, .f32⟩
  | .hbm, ⟨101, _⟩ => ⟨S10240, .f32⟩
  | .hbm, ⟨102, _⟩ => ⟨S10000, .f32⟩
  | .hbm, ⟨103, _⟩ => ⟨S_, .f32⟩
  | .hbm, ⟨104, _⟩ => ⟨S10000, .f32⟩
  | .hbm, ⟨105, _⟩ => ⟨S10000, .i1⟩
  | .hbm, ⟨106, _⟩ => ⟨S10000, .f32⟩
  | .hbm, ⟨107, _⟩ => ⟨S_, .i32⟩
  | .hbm, ⟨108, _⟩ => ⟨S1, .i32⟩
  | .hbm, ⟨109, _⟩ => ⟨S10000x14, .f32⟩
  | .hbm, ⟨110, _⟩ => ⟨S10000x1, .i1⟩
  | .hbm, ⟨111, _⟩ => ⟨S_, .f32⟩
  | .hbm, ⟨112, _⟩ => ⟨S_, .f32⟩
  | .hbm, ⟨113, _⟩ => ⟨S10000x14, .i1⟩
  | .hbm, ⟨114, _⟩ => ⟨S10000x14, .f32⟩
  | .hbm, ⟨115, _⟩ => ⟨S10000x14, .f32⟩
  | .local _ .vmem, ⟨0, _⟩ => ⟨S80x128, .f32⟩
  | .local _ .vmem, ⟨1, _⟩ => ⟨S80x128, .f32⟩
  | .local _ .vmem, ⟨2, _⟩ => ⟨S80x128, .f32⟩
  | .local _ .vmem, ⟨3, _⟩ => ⟨S80x128, .f32⟩
  | .local _ .vmem, ⟨4, _⟩ => ⟨S80x128, .f32⟩
  | .local _ .vmem, ⟨5, _⟩ => ⟨S80x128, .f32⟩
  | .local _ .vmem, ⟨6, _⟩ => ⟨S80x128, .f32⟩
  | .local _ .vmem, ⟨7, _⟩ => ⟨S16x128, .f32⟩
  | .local _ .vmem, ⟨8, _⟩ => ⟨S16x128, .f32⟩
  | _, _ => ⟨S5000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_c_0 : Ref sig .tc := ⟨.hbm, 3, rfl⟩
abbrev main_call0_c_1 : Ref sig .tc := ⟨.hbm, 4, rfl⟩
abbrev main_call0_c_2 : Ref sig .tc := ⟨.hbm, 5, rfl⟩
abbrev main_call0_c_3 : Ref sig .tc := ⟨.hbm, 6, rfl⟩
abbrev main_call0_c_4 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_5 : Ref sig .tc := ⟨.hbm, 14, rfl⟩
abbrev main_call0_call0_v0 : Ref sig .tc := ⟨.hbm, 15, rfl⟩
abbrev main_call0_v6 : Ref sig .tc := ⟨.hbm, 16, rfl⟩
abbrev main_call0_v7 : Ref sig .tc := ⟨.hbm, 17, rfl⟩
abbrev main_call0_c_6 : Ref sig .tc := ⟨.hbm, 18, rfl⟩
abbrev main_call0_v8 : Ref sig .tc := ⟨.hbm, 19, rfl⟩
abbrev main_call0_v9 : Ref sig .tc := ⟨.hbm, 20, rfl⟩
abbrev main_call0_c_7 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_c_8 : Ref sig .tc := ⟨.hbm, 30, rfl⟩
abbrev main_call0_call1_v0 : Ref sig .tc := ⟨.hbm, 31, rfl⟩
abbrev main_call0_v18 : Ref sig .tc := ⟨.hbm, 32, rfl⟩
abbrev main_call0_v19 : Ref sig .tc := ⟨.hbm, 33, rfl⟩
abbrev main_call0_c_9 : Ref sig .tc := ⟨.hbm, 34, rfl⟩
abbrev main_call0_v20 : Ref sig .tc := ⟨.hbm, 35, rfl⟩
abbrev main_call0_v21 : Ref sig .tc := ⟨.hbm, 36, rfl⟩
abbrev main_call0_c_10 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_v28 : Ref sig .tc := ⟨.hbm, 44, rfl⟩
abbrev main_call0_v29 : Ref sig .tc := ⟨.hbm, 45, rfl⟩
abbrev main_call0_c_11 : Ref sig .tc := ⟨.hbm, 46, rfl⟩
abbrev main_call0_call2_v0 : Ref sig .tc := ⟨.hbm, 47, rfl⟩
abbrev main_call0_v30 : Ref sig .tc := ⟨.hbm, 48, rfl⟩
abbrev main_call0_v31 : Ref sig .tc := ⟨.hbm, 49, rfl⟩
abbrev main_call0_c_12 : Ref sig .tc := ⟨.hbm, 50, rfl⟩
abbrev main_call0_v32 : Ref sig .tc := ⟨.hbm, 51, rfl⟩
abbrev main_call0_v33 : Ref sig .tc := ⟨.hbm, 52, rfl⟩
abbrev main_call0_c_13 : Ref sig .tc := ⟨.hbm, 53, rfl⟩
abbrev main_call0_v34 : Ref sig .tc := ⟨.hbm, 54, rfl⟩
abbrev main_call0_v35 : Ref sig .tc := ⟨.hbm, 55, rfl⟩
abbrev main_call0_v36 : Ref sig .tc := ⟨.hbm, 56, rfl⟩
abbrev main_call0_v37 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_v41 : Ref sig .tc := ⟨.hbm, 61, rfl⟩
abbrev main_call0_c_14 : Ref sig .tc := ⟨.hbm, 62, rfl⟩
abbrev main_call0_call3_v0 : Ref sig .tc := ⟨.hbm, 63, rfl⟩
abbrev main_call0_v42 : Ref sig .tc := ⟨.hbm, 64, rfl⟩
abbrev main_call0_v43 : Ref sig .tc := ⟨.hbm, 65, rfl⟩
abbrev main_call0_c_15 : Ref sig .tc := ⟨.hbm, 66, rfl⟩
abbrev main_call0_v44 : Ref sig .tc := ⟨.hbm, 67, rfl⟩
abbrev main_call0_v45 : Ref sig .tc := ⟨.hbm, 68, rfl⟩
abbrev main_call0_c_16 : Ref sig .tc := ⟨.hbm, 69, rfl⟩
abbrev main_call0_v46 : Ref sig .tc := ⟨.hbm, 70, rfl⟩
abbrev main_call0_v47 : Ref sig .tc := ⟨.hbm, 71, rfl⟩
abbrev main_call0_v48 : Ref sig .tc := ⟨.hbm, 72, rfl⟩
abbrev main_call0_v49 : Ref sig .tc := ⟨.hbm, 73, rfl⟩
abbrev main_call0_v50 : Ref sig .tc := ⟨.hbm, 74, rfl⟩
abbrev main_call0_v51 : Ref sig .tc := ⟨.hbm, 75, rfl⟩
abbrev main_call0_c_17 : Ref sig .tc := ⟨.hbm, 76, rfl⟩
abbrev main_call0_call4_v0 : Ref sig .tc := ⟨.hbm, 77, rfl⟩
abbrev main_call0_v52 : Ref sig .tc := ⟨.hbm, 78, rfl⟩
abbrev main_call0_v53 : Ref sig .tc := ⟨.hbm, 79, rfl⟩
abbrev main_call0_c_18 : Ref sig .tc := ⟨.hbm, 80, rfl⟩
abbrev main_call0_v54 : Ref sig .tc := ⟨.hbm, 81, rfl⟩
abbrev main_call0_v55 : Ref sig .tc := ⟨.hbm, 82, rfl⟩
abbrev main_call0_c_19 : Ref sig .tc := ⟨.hbm, 83, rfl⟩
abbrev main_call0_v56 : Ref sig .tc := ⟨.hbm, 84, rfl⟩
abbrev main_call0_v57 : Ref sig .tc := ⟨.hbm, 85, rfl⟩
abbrev main_call0_v58 : Ref sig .tc := ⟨.hbm, 86, rfl⟩
abbrev main_call0_v59 : Ref sig .tc := ⟨.hbm, 87, rfl⟩
abbrev main_call0_v60 : Ref sig .tc := ⟨.hbm, 88, rfl⟩
abbrev main_call0_v61 : Ref sig .tc := ⟨.hbm, 89, rfl⟩
abbrev main_call0_v62 : Ref sig .tc := ⟨.hbm, 90, rfl⟩
abbrev main_call0_c_20 : Ref sig .tc := ⟨.hbm, 91, rfl⟩
abbrev main_call0_v63 : Ref sig .tc := ⟨.hbm, 92, rfl⟩
abbrev main_call0_v64 : Ref sig .tc := ⟨.hbm, 93, rfl⟩
abbrev main_call0_c_21 : Ref sig .tc := ⟨.hbm, 94, rfl⟩
abbrev main_call0_v65 : Ref sig .tc := ⟨.hbm, 95, rfl⟩
abbrev main_call0_v66 : Ref sig .tc := ⟨.hbm, 96, rfl⟩
abbrev main_call0_v67 : Ref sig .tc := ⟨.hbm, 97, rfl⟩
abbrev main_call0_v68 : Ref sig .tc := ⟨.hbm, 98, rfl⟩
abbrev main_call0_v69 : Ref sig .tc := ⟨.hbm, 99, rfl⟩
abbrev main_call0_v70 : Ref sig .tc := ⟨.hbm, 100, rfl⟩
abbrev main_call0_v71 : Ref sig .tc := ⟨.hbm, 101, rfl⟩
abbrev main_call0_v72 : Ref sig .tc := ⟨.hbm, 102, rfl⟩
abbrev main_call0_cst : Ref sig .tc := ⟨.hbm, 103, rfl⟩
abbrev main_call0_v73 : Ref sig .tc := ⟨.hbm, 104, rfl⟩
abbrev main_call0_v74 : Ref sig .tc := ⟨.hbm, 105, rfl⟩
abbrev main_call0_v75 : Ref sig .tc := ⟨.hbm, 106, rfl⟩
abbrev main_call0_c_22 : Ref sig .tc := ⟨.hbm, 107, rfl⟩
abbrev main_call0_v76 : Ref sig .tc := ⟨.hbm, 108, rfl⟩
abbrev main_call0_v77 : Ref sig .tc := ⟨.hbm, 109, rfl⟩
abbrev main_call0_v78 : Ref sig .tc := ⟨.hbm, 110, rfl⟩
abbrev main_call0_cst_23 : Ref sig .tc := ⟨.hbm, 111, rfl⟩
abbrev main_call0_call5_v0 : Ref sig .tc := ⟨.hbm, 112, rfl⟩
abbrev main_call0_call5_v1 : Ref sig .tc := ⟨.hbm, 113, rfl⟩
abbrev main_call0_call5_v2 : Ref sig .tc := ⟨.hbm, 114, rfl⟩
abbrev main_v0 : Ref sig .tc := ⟨.hbm, 115, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S80x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S5000x14 : Shape := ⟨2, ![5000, 14]⟩
abbrev S10000x14 : Shape := ⟨2, ![10000, 14]⟩
abbrev S10000x4 : Shape := ⟨2, ![10000, 4]⟩
abbrev S10000x1 : Shape := ⟨2, ![10000, 1]⟩
abbrev S10000 : Shape := ⟨1, ![10000]⟩
abbrev S_ : Shape := ⟨0, ![]⟩
abbrev S1x4 : Shape := ⟨2, ![1, 4]⟩
abbrev S4 : Shape := ⟨1, ![4]⟩
abbrev S1 : Shape := ⟨1, ![1]⟩

abbrev nBuf : Space → Nat
  | .hbm => 148
  | .vmem => 0
  | .smem => 0
  | _ => 0

abbrev hbmTy0_0 (i : Nat) : BufTy := match i % 128 with
  | 0 => ⟨S5000x14, .f32⟩
  | 1 => ⟨S5000x14, .f32⟩
  | 2 => ⟨S10000x14, .f32⟩
  | 3 => ⟨S10000x4, .f32⟩
  | 4 => ⟨S10000x1, .f32⟩
  | 5 => ⟨S10000, .f32⟩
  | 6 => ⟨S_, .i1⟩
  | 7 => ⟨S10000, .i1⟩
  | 8 => ⟨S_, .i32⟩
  | 9 => ⟨S_, .i32⟩
  | 10 => ⟨S10000x4, .f32⟩
  | 11 => ⟨S_, .i32⟩
  | 12 => ⟨S_, .i32⟩
  | 13 => ⟨S10000, .f32⟩
  | 14 => ⟨S10000, .i1⟩
  | 15 => ⟨S_, .i32⟩
  | 16 => ⟨S_, .i1⟩
  | 17 => ⟨S_, .i32⟩
  | 18 => ⟨S_, .i32⟩
  | 19 => ⟨S_, .f32⟩
  | 20 => ⟨S_, .f32⟩
  | 21 => ⟨S10000, .f32⟩
  | 22 => ⟨S10000, .f32⟩
  | 23 => ⟨S10000, .i32⟩
  | 24 => ⟨S_, .f32⟩
  | 25 => ⟨S_, .i32⟩
  | 26 => ⟨S_, .f32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S1x4, .f32⟩
  | 42 => ⟨S4, .f32⟩
  | 43 => ⟨S1, .f32⟩
  | 44 => ⟨S_, .f32⟩
  | 45 => ⟨S10000x1, .f32⟩
  | 46 => ⟨S10000, .f32⟩
  | 47 => ⟨S10000, .f32⟩
  | 48 => ⟨S10000, .f32⟩
  | 49 => ⟨S1, .f32⟩
  | 50 => ⟨S_, .f32⟩
  | 51 => ⟨S10000x1, .f32⟩
  | 52 => ⟨S10000, .f32⟩
  | 53 => ⟨S10000, .f32⟩
  | 54 => ⟨S10000, .f32⟩
  | 55 => ⟨S1, .f32⟩
  | 56 => ⟨S_, .f32⟩
  | 57 => ⟨S10000x1, .f32⟩
  | 58 => ⟨S10000, .f32⟩
  | 59 => ⟨S10000, .f32⟩
  | 60 => ⟨S10000, .f32⟩
  | 61 => ⟨S1, .f32⟩
  | 62 => ⟨S_, .f32⟩
  | 63 => ⟨S10000x1, .f32⟩
  | 64 => ⟨S10000, .f32⟩
  | 65 => ⟨S10000, .f32⟩
  | 66 => ⟨S10000, .f32⟩
  | 67 => ⟨S10000, .f32⟩
  | 68 => ⟨S_, .f32⟩
  | 69 => ⟨S10000, .f32⟩
  | 70 => ⟨S10000, .f32⟩
  | 71 => ⟨S10000, .f32⟩
  | 72 => ⟨S_, .f32⟩
  | 73 => ⟨S10000, .f32⟩
  | 74 => ⟨S10000, .f32⟩
  | 75 => ⟨S10000, .f32⟩
  | 76 => ⟨S1, .f32⟩
  | 77 => ⟨S_, .f32⟩
  | 78 => ⟨S1, .f32⟩
  | 79 => ⟨S_, .f32⟩
  | 80 => ⟨S_, .f32⟩
  | 81 => ⟨S1, .f32⟩
  | 82 => ⟨S_, .f32⟩
  | 83 => ⟨S1, .f32⟩
  | 84 => ⟨S_, .f32⟩
  | 85 => ⟨S_, .f32⟩
  | 86 => ⟨S_, .f32⟩
  | 87 => ⟨S10000x1, .f32⟩
  | 88 => ⟨S10000, .f32⟩
  | 89 => ⟨S10000x1, .f32⟩
  | 90 => ⟨S10000, .f32⟩
  | 91 => ⟨S10000, .f32⟩
  | 92 => ⟨S10000x1, .f32⟩
  | 93 => ⟨S10000, .f32⟩
  | 94 => ⟨S10000x1, .f32⟩
  | 95 => ⟨S10000, .f32⟩
  | 96 => ⟨S10000, .f32⟩
  | 97 => ⟨S10000, .f32⟩
  | 98 => ⟨S10000, .f32⟩
  | 99 => ⟨S10000, .f32⟩
  | 100 => ⟨S10000, .f32⟩
  | 101 => ⟨S_, .f32⟩
  | 102 => ⟨S10000, .f32⟩
  | 103 => ⟨S10000, .f32⟩
  | 104 => ⟨S10000, .f32⟩
  | 105 => ⟨S_, .f32⟩
  | 106 => ⟨S10000, .f32⟩
  | 107 => ⟨S10000, .f32⟩
  | 108 => ⟨S10000, .f32⟩
  | 109 => ⟨S_, .f32⟩
  | 110 => ⟨S10000, .f32⟩
  | 111 => ⟨S10000, .f32⟩
  | 112 => ⟨S10000, .f32⟩
  | 113 => ⟨S_, .f32⟩
  | 114 => ⟨S_, .f32⟩
  | 115 => ⟨S10000, .f32⟩
  | 116 => ⟨S10000, .f32⟩
  | 117 => ⟨S_, .i32⟩
  | 118 => ⟨S_, .i1⟩
  | 119 => ⟨S_, .i32⟩
  | 120 => ⟨S_, .i32⟩
  | 121 => ⟨S_, .i32⟩
  | 122 => ⟨S1, .i32⟩
  | 123 => ⟨S_, .f32⟩
  | 124 => ⟨S10000, .f32⟩
  | 125 => ⟨S10000, .f32⟩
  | 126 => ⟨S_, .i32⟩
  | 127 => ⟨S_, .i1⟩
  | _ => ⟨S5000x14, .f32⟩

abbrev hbmTy0_1 (i : Nat) : BufTy := match i % 128 with
  | 0 => ⟨S_, .i32⟩
  | 1 => ⟨S_, .i32⟩
  | 2 => ⟨S_, .i32⟩
  | 3 => ⟨S1, .i32⟩
  | 4 => ⟨S_, .i1⟩
  | 5 => ⟨S10000, .i1⟩
  | 6 => ⟨S_, .i32⟩
  | 7 => ⟨S_, .i32⟩
  | 8 => ⟨S_, .f32⟩
  | 9 => ⟨S10000, .f32⟩
  | 10 => ⟨S10000, .i1⟩
  | 11 => ⟨S_, .i32⟩
  | 12 => ⟨S1, .i32⟩
  | 13 => ⟨S10000x14, .f32⟩
  | 14 => ⟨S10000x1, .i1⟩
  | 15 => ⟨S_, .f32⟩
  | 16 => ⟨S_, .f32⟩
  | 17 => ⟨S10000x14, .i1⟩
  | 18 => ⟨S10000x14, .f32⟩
  | 19 => ⟨S10000x14, .f32⟩
  | _ => ⟨S5000x14, .f32⟩

abbrev hbmTy (i : Nat) : BufTy := match i / 128 with
  | 0 => hbmTy0_0 i
  | 1 => hbmTy0_1 i
  | _ => ⟨S5000x14, .f32⟩

abbrev bufTy : (tb : Table) → Fin (tcTables nBuf tb) → BufTy
  | .hbm, ⟨i, _⟩ => hbmTy i
  | _, _ => ⟨S5000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_c_0 : Ref sig .tc := ⟨.hbm, 8, rfl⟩
abbrev main_c_1 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_while0c_c_8 : Ref sig .tc := ⟨.hbm, 15, rfl⟩
abbrev main_while0c_v12 : Ref sig .tc := ⟨.hbm, 16, rfl⟩
abbrev main_while0b_c_8 : Ref sig .tc := ⟨.hbm, 17, rfl⟩
abbrev main_while0b_v12 : Ref sig .tc := ⟨.hbm, 18, rfl⟩
abbrev main_while0b_cst_9 : Ref sig .tc := ⟨.hbm, 19, rfl⟩
abbrev main_while0b_call0_v0 : Ref sig .tc := ⟨.hbm, 20, rfl⟩
abbrev main_while0b_call0_v1 : Ref sig .tc := ⟨.hbm, 21, rfl⟩
abbrev main_while0b_v13 : Ref sig .tc := ⟨.hbm, 22, rfl⟩
abbrev main_while0b_call1_v0 : Ref sig .tc := ⟨.hbm, 23, rfl⟩
abbrev main_while0b_call1_cst : Ref sig .tc := ⟨.hbm, 24, rfl⟩
abbrev main_while0b_call1_c : Ref sig .tc := ⟨.hbm, 25, rfl⟩
abbrev main_while0b_call1_v1_0 : Ref sig .tc := ⟨.hbm, 26, rfl⟩
abbrev main_while0b_v14 : Ref sig .tc := ⟨.hbm, 27, rfl⟩
abbrev main_while0b_c_10 : Ref sig .tc := ⟨.hbm, 28, rfl⟩
abbrev main_while0b_v15 : Ref sig .tc := ⟨.hbm, 29, rfl⟩
abbrev main_while0b_c_11 : Ref sig .tc := ⟨.hbm, 30, rfl⟩
abbrev main_while0b_v16 : Ref sig .tc := ⟨.hbm, 31, rfl⟩
abbrev main_while0b_v17 : Ref sig .tc := ⟨.hbm, 32, rfl⟩
abbrev main_while0b_c_12 : Ref sig .tc := ⟨.hbm, 33, rfl⟩
abbrev main_while0b_c_13 : Ref sig .tc := ⟨.hbm, 34, rfl⟩
abbrev main_while0b_v18 : Ref sig .tc := ⟨.hbm, 35, rfl⟩
abbrev main_while0b_c_14 : Ref sig .tc := ⟨.hbm, 36, rfl⟩
abbrev main_while0b_c_15 : Ref sig .tc := ⟨.hbm, 37, rfl⟩
abbrev main_while0b_v19 : Ref sig .tc := ⟨.hbm, 38, rfl⟩
abbrev main_while0b_c_16 : Ref sig .tc := ⟨.hbm, 39, rfl⟩
abbrev main_while0b_v20 : Ref sig .tc := ⟨.hbm, 40, rfl⟩
abbrev main_while0b_v21 : Ref sig .tc := ⟨.hbm, 41, rfl⟩
abbrev main_while0b_v22 : Ref sig .tc := ⟨.hbm, 42, rfl⟩
abbrev main_while0b_v23 : Ref sig .tc := ⟨.hbm, 43, rfl⟩
abbrev main_while0b_v24 : Ref sig .tc := ⟨.hbm, 44, rfl⟩
abbrev main_while0b_v25 : Ref sig .tc := ⟨.hbm, 45, rfl⟩
abbrev main_while0b_v26 : Ref sig .tc := ⟨.hbm, 46, rfl⟩
abbrev main_while0b_v27 : Ref sig .tc := ⟨.hbm, 47, rfl⟩
abbrev main_while0b_v28 : Ref sig .tc := ⟨.hbm, 48, rfl⟩
abbrev main_while0b_v29 : Ref sig .tc := ⟨.hbm, 49, rfl⟩
abbrev main_while0b_v30 : Ref sig .tc := ⟨.hbm, 50, rfl⟩
abbrev main_while0b_v31 : Ref sig .tc := ⟨.hbm, 51, rfl⟩
abbrev main_while0b_v32 : Ref sig .tc := ⟨.hbm, 52, rfl⟩
abbrev main_while0b_v33 : Ref sig .tc := ⟨.hbm, 53, rfl⟩
abbrev main_while0b_v34 : Ref sig .tc := ⟨.hbm, 54, rfl⟩
abbrev main_while0b_v35 : Ref sig .tc := ⟨.hbm, 55, rfl⟩
abbrev main_while0b_v36 : Ref sig .tc := ⟨.hbm, 56, rfl⟩
abbrev main_while0b_v37 : Ref sig .tc := ⟨.hbm, 57, rfl⟩
abbrev main_while0b_v38 : Ref sig .tc := ⟨.hbm, 58, rfl⟩
abbrev main_while0b_v39 : Ref sig .tc := ⟨.hbm, 59, rfl⟩
abbrev main_while0b_v40 : Ref sig .tc := ⟨.hbm, 60, rfl⟩
abbrev main_while0b_v41 : Ref sig .tc := ⟨.hbm, 61, rfl⟩
abbrev main_while0b_v42 : Ref sig .tc := ⟨.hbm, 62, rfl⟩
abbrev main_while0b_v43 : Ref sig .tc := ⟨.hbm, 63, rfl⟩
abbrev main_while0b_v44 : Ref sig .tc := ⟨.hbm, 64, rfl⟩
abbrev main_while0b_v45 : Ref sig .tc := ⟨.hbm, 65, rfl⟩
abbrev main_while0b_v46 : Ref sig .tc := ⟨.hbm, 66, rfl⟩
abbrev main_while0b_v47 : Ref sig .tc := ⟨.hbm, 67, rfl⟩
abbrev main_while0b_cst_17 : Ref sig .tc := ⟨.hbm, 68, rfl⟩
abbrev main_while0b_v48 : Ref sig .tc := ⟨.hbm, 69, rfl⟩
abbrev main_while0b_v49 : Ref sig .tc := ⟨.hbm, 70, rfl⟩
abbrev main_while0b_v50 : Ref sig .tc := ⟨.hbm, 71, rfl⟩
abbrev main_while0b_cst_18 : Ref sig .tc := ⟨.hbm, 72, rfl⟩
abbrev main_while0b_v51 : Ref sig .tc := ⟨.hbm, 73, rfl⟩
abbrev main_while0b_v52 : Ref sig .tc := ⟨.hbm, 74, rfl⟩
abbrev main_while0b_v53 : Ref sig .tc := ⟨.hbm, 75, rfl⟩
abbrev main_while0b_v54 : Ref sig .tc := ⟨.hbm, 76, rfl⟩
abbrev main_while0b_v55 : Ref sig .tc := ⟨.hbm, 77, rfl⟩
abbrev main_while0b_v56 : Ref sig .tc := ⟨.hbm, 78, rfl⟩
abbrev main_while0b_v57 : Ref sig .tc := ⟨.hbm, 79, rfl⟩
abbrev main_while0b_v58 : Ref sig .tc := ⟨.hbm, 80, rfl⟩
abbrev main_while0b_v59 : Ref sig .tc := ⟨.hbm, 81, rfl⟩
abbrev main_while0b_v60 : Ref sig .tc := ⟨.hbm, 82, rfl⟩
abbrev main_while0b_v61 : Ref sig .tc := ⟨.hbm, 83, rfl⟩
abbrev main_while0b_v62 : Ref sig .tc := ⟨.hbm, 84, rfl⟩
abbrev main_while0b_v63 : Ref sig .tc := ⟨.hbm, 85, rfl⟩
abbrev main_while0b_v64 : Ref sig .tc := ⟨.hbm, 86, rfl⟩
abbrev main_while0b_v65 : Ref sig .tc := ⟨.hbm, 87, rfl⟩
abbrev main_while0b_v66 : Ref sig .tc := ⟨.hbm, 88, rfl⟩
abbrev main_while0b_v67 : Ref sig .tc := ⟨.hbm, 89, rfl⟩
abbrev main_while0b_v68 : Ref sig .tc := ⟨.hbm, 90, rfl⟩
abbrev main_while0b_v69 : Ref sig .tc := ⟨.hbm, 91, rfl⟩
abbrev main_while0b_v70 : Ref sig .tc := ⟨.hbm, 92, rfl⟩
abbrev main_while0b_v71 : Ref sig .tc := ⟨.hbm, 93, rfl⟩
abbrev main_while0b_v72 : Ref sig .tc := ⟨.hbm, 94, rfl⟩
abbrev main_while0b_v73 : Ref sig .tc := ⟨.hbm, 95, rfl⟩
abbrev main_while0b_v74 : Ref sig .tc := ⟨.hbm, 96, rfl⟩
abbrev main_while0b_v75 : Ref sig .tc := ⟨.hbm, 97, rfl⟩
abbrev main_while0b_v76 : Ref sig .tc := ⟨.hbm, 98, rfl⟩
abbrev main_while0b_v77 : Ref sig .tc := ⟨.hbm, 99, rfl⟩
abbrev main_while0b_v78 : Ref sig .tc := ⟨.hbm, 100, rfl⟩
abbrev main_while0b_cst_19 : Ref sig .tc := ⟨.hbm, 101, rfl⟩
abbrev main_while0b_v79 : Ref sig .tc := ⟨.hbm, 102, rfl⟩
abbrev main_while0b_v80 : Ref sig .tc := ⟨.hbm, 103, rfl⟩
abbrev main_while0b_v81 : Ref sig .tc := ⟨.hbm, 104, rfl⟩
abbrev main_while0b_cst_20 : Ref sig .tc := ⟨.hbm, 105, rfl⟩
abbrev main_while0b_v82 : Ref sig .tc := ⟨.hbm, 106, rfl⟩
abbrev main_while0b_v83 : Ref sig .tc := ⟨.hbm, 107, rfl⟩
abbrev main_while0b_v84 : Ref sig .tc := ⟨.hbm, 108, rfl⟩
abbrev main_while0b_cst_21 : Ref sig .tc := ⟨.hbm, 109, rfl⟩
abbrev main_while0b_v85 : Ref sig .tc := ⟨.hbm, 110, rfl⟩
abbrev main_while0b_v86 : Ref sig .tc := ⟨.hbm, 111, rfl⟩
abbrev main_while0b_v87 : Ref sig .tc := ⟨.hbm, 112, rfl⟩
abbrev main_while0b_cst_22 : Ref sig .tc := ⟨.hbm, 113, rfl⟩
abbrev main_while0b_call2_v0 : Ref sig .tc := ⟨.hbm, 114, rfl⟩
abbrev main_while0b_call2_v1 : Ref sig .tc := ⟨.hbm, 115, rfl⟩
abbrev main_while0b_v88 : Ref sig .tc := ⟨.hbm, 116, rfl⟩
abbrev main_while0b_c_23 : Ref sig .tc := ⟨.hbm, 117, rfl⟩
abbrev main_while0b_v89 : Ref sig .tc := ⟨.hbm, 118, rfl⟩
abbrev main_while0b_c_24 : Ref sig .tc := ⟨.hbm, 119, rfl⟩
abbrev main_while0b_v90 : Ref sig .tc := ⟨.hbm, 120, rfl⟩
abbrev main_while0b_v91 : Ref sig .tc := ⟨.hbm, 121, rfl⟩
abbrev main_while0b_v92 : Ref sig .tc := ⟨.hbm, 122, rfl⟩
abbrev main_while0b_cst_25 : Ref sig .tc := ⟨.hbm, 123, rfl⟩
abbrev main_while0b_v93 : Ref sig .tc := ⟨.hbm, 124, rfl⟩
abbrev main_while0b_v94 : Ref sig .tc := ⟨.hbm, 125, rfl⟩
abbrev main_while0b_c_26 : Ref sig .tc := ⟨.hbm, 126, rfl⟩
abbrev main_while0b_v95 : Ref sig .tc := ⟨.hbm, 127, rfl⟩
abbrev main_while0b_c_27 : Ref sig .tc := ⟨.hbm, 128, rfl⟩
abbrev main_while0b_v96 : Ref sig .tc := ⟨.hbm, 129, rfl⟩
abbrev main_while0b_v97 : Ref sig .tc := ⟨.hbm, 130, rfl⟩
abbrev main_while0b_v98 : Ref sig .tc := ⟨.hbm, 131, rfl⟩
abbrev main_while0b_c_28 : Ref sig .tc := ⟨.hbm, 132, rfl⟩
abbrev main_while0b_v99 : Ref sig .tc := ⟨.hbm, 133, rfl⟩
abbrev main_while0b_c_29 : Ref sig .tc := ⟨.hbm, 134, rfl⟩
abbrev main_while0b_v100 : Ref sig .tc := ⟨.hbm, 135, rfl⟩
abbrev main_cst : Ref sig .tc := ⟨.hbm, 136, rfl⟩
abbrev main_v6 : Ref sig .tc := ⟨.hbm, 137, rfl⟩
abbrev main_v7 : Ref sig .tc := ⟨.hbm, 138, rfl⟩
abbrev main_c_2 : Ref sig .tc := ⟨.hbm, 139, rfl⟩
abbrev main_v8 : Ref sig .tc := ⟨.hbm, 140, rfl⟩
abbrev main_v9 : Ref sig .tc := ⟨.hbm, 141, rfl⟩
abbrev main_v10 : Ref sig .tc := ⟨.hbm, 142, rfl⟩
abbrev main_cst_3 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_v11 : Ref sig .tc := ⟨.hbm, 147, rfl⟩

abbrev nD : Nat := 1
abbrev τ : Topo := Topo.v7x

variable {F : FTy → Type} [FloatOps F]

abbrev main_while0_count : Scf.Loop 32 := ⟨0#32, 10000#32, 1#32⟩
-- ==== Proof.Nms.Ops.lean ====
/-
  One trip of the kernel's loop, written once over any float values and any program's labels: eight picks of the
  current maximum (through the two scratch buffers), the validity of each pick, the decay by the valid picks and the
  marking of the kept ones; twice over, the second time on the first one's result.
-/
module

public import Idealize.ShloMosaic.Lib.Pipeline
public import Idealize.ShloMosaic.Lib.Scf
public import Idealize.ShloMosaic.Lib.Sig
public import Idealize.ShloMosaic.PureOps
public import Idealize.ShloMosaic.Lib.Tactic

@[expose] public section

noncomputable section

namespace Cert.Nms

open Idealize.ShloMosaic Idealize.SL.Sem

/-- The shapes the trip works on. -/
abbrev A80 : Shape := ⟨2, ![80, 128]⟩
abbrev A40 : Shape := ⟨2, ![40, 128]⟩
abbrev A16 : Shape := ⟨2, ![16, 128]⟩
abbrev A8 : Shape := ⟨2, ![8, 128]⟩
abbrev A1 : Shape := ⟨2, ![1, 128]⟩
abbrev B80 : Shape := ⟨3, ![1, 80, 128]⟩
abbrev B1 : Shape := ⟨3, ![1, 1, 128]⟩
abbrev U1 : Shape := ⟨1, ![1]⟩
abbrev U2 : Shape := ⟨2, ![1, 1]⟩
abbrev U3 : Shape := ⟨3, ![1, 1, 1]⟩

/-- The array of eight rows is not empty. -/
theorem pos_A8 : 0 < A8.numel := by decide
/-- The array of sixteen rows is not empty. -/
theorem pos_A16 : 0 < A16.numel := by decide
/-- The array of eighty rows is not empty. -/
theorem pos_A80 : 0 < A80.numel := by decide

variable {F : FTy → Type} [FloatOps F]

/-! ### The pure steps -/

/-- A vector of values with the vector of the flat indices they stand at. -/
abbrev Pair (F : FTy → Type) (s : Shape) : Type := FVec F s .f32 × FVec F s .f32

/-- Lane by lane the larger value with its index, the first on a tie. -/
def cmb {s : Shape} (a b : Pair F s) : Pair F s :=
  (select (cmpf .ogt b.1 a.1) b.1 a.1, select (cmpf .ogt b.1 a.1) b.2 a.2)

/-- Rows `o` to `o + 8` of a 40-row pair. -/
def rows8 (o : Fin 2 → Nat) (h : A40.Slices o A8) (a : Pair F A40) : Pair F A8 :=
  (extractStridedSlice A8 o a.1 h, extractStridedSlice A8 o a.2 h)

/-- The five 8-row groups of a 40-row pair, combined. -/
def fold40 (a : Pair F A40) : Pair F A8 :=
  cmb (cmb (rows8 ![0, 0] (by decide) a) (rows8 ![8, 0] (by decide) a))
    (cmb (cmb (rows8 ![16, 0] (by decide) a) (rows8 ![24, 0] (by decide) a)) (rows8 ![32, 0] (by decide) a))

/-- The two 40-row halves of the 80 rows, combined. -/
def fold80 (cum flat : FVec F A80 .f32) : Pair F A8 :=
  cmb (fold40 (extractStridedSlice A40 ![0, 0] cum (by decide), extractStridedSlice A40 ![0, 0] flat (by decide)))
    (fold40 (extractStridedSlice A40 ![40, 0] cum (by decide), extractStridedSlice A40 ![40, 0] flat (by decide)))

/-- Eight pairs combined as a balanced tree. -/
def tree8 {s : Shape} (l0 l1 l2 l3 l4 l5 l6 l7 : Pair F s) : Pair F s :=
  cmb (cmb (cmb l0 l1) (cmb l2 l3)) (cmb (cmb l4 l5) (cmb l6 l7))

/-- The first row of a pair. -/
def row0 (a : Pair F A8) : Pair F A1 :=
  (extractStridedSlice A1 ![0, 0] a.1 (by decide), extractStridedSlice A1 ![0, 0] a.2 (by decide))

/-- The index of the largest value of a row, the smallest index on a tie. -/
def winner (z : Pair F A1) : FVec F U2 .f32 :=
  have m : FVec F U2 .f32 := broadcast U2 (extractAt ![0, 0, 0] (shapeCast U3
    (multiReduction .maximumf [1, 2] U1 (shapeCast B1 z.1 (by decide)) 0xFF800000#32 (by decide) (.inl rfl) rfl) (by decide)) (by decide))
  broadcast U2 (extractAt ![0, 0, 0] (shapeCast U3
    (multiReduction .minimumf [1, 2] U1 (shapeCast B1
      (select (cmpf .oeq z.1 (broadcastTo A1 m (by decide))) z.2 (broadcast A1 (Scalar.ofBits .f32 0x4BE4E1C0#32))) (by decide))
      0x7F800000#32 (by decide) (.inl rfl) rfl) (by decide)) (by decide))

/-- Where the flat index is the given one. -/
def at1 (flat : FVec F A80 .f32) (w : FVec F U2 .f32) : IVec A80 1 :=
  cmpf .oeq flat (broadcastTo A80 w (by decide))

/-- The sum of a vector over a mask. -/
def pull (oh : IVec A80 1) (x : FVec F A80 .f32) : FVec F U2 .f32 :=
  broadcast U2 (extractAt ![0, 0, 0] (shapeCast U3
    (multiReduction .add [1, 2] U1 (shapeCast B80 (select oh x (broadcast A80 (Scalar.ofBits .f32 0x00000000#32))) (by decide))
      0x00000000#32 (by decide) (.inl rfl) rfl) (by decide)) (by decide))

/-- The four box coordinates, the areas and the flat indices. -/
structure Geo (F : FTy → Type) where
  flat : FVec F A80 .f32
  x1 : FVec F A80 .f32
  y1 : FVec F A80 .f32
  x2 : FVec F A80 .f32
  y2 : FVec F A80 .f32
  area : FVec F A80 .f32

/-- A pick: its flat index, its box and its area. -/
structure Pick (F : FTy → Type) where
  w : FVec F U2 .f32
  x1 : FVec F U2 .f32
  y1 : FVec F U2 .f32
  x2 : FVec F U2 .f32
  y2 : FVec F U2 .f32
  area : FVec F U2 .f32

/-- The pick at an index. -/
def pickAt (g : Geo F) (w : FVec F U2 .f32) : Pick F :=
  have oh : IVec A80 1 := at1 g.flat w
  ⟨w, pull oh g.x1, pull oh g.y1, pull oh g.x2, pull oh g.y2,
    mulf (subf (pull oh g.x2) (pull oh g.x1)) (subf (pull oh g.y2) (pull oh g.y1))⟩

/-- The values with the pick's entry taken out of the running. -/
def drop1 (g : Geo F) (cum : FVec F A80 .f32) (w : FVec F U2 .f32) : FVec F A80 .f32 :=
  select (at1 g.flat w) (broadcast A80 (Scalar.ofBits .f32 0xFF800000#32)) cum

/-- Whether the boxes of two picks meet, `j` the later pick. -/
def meets (j i : Pick F) : IVec U2 1 :=
  andi (cmpf .ogt (subf (minimumf j.x2 i.x2) (maximumf j.x1 i.x1)) (broadcast U2 (Scalar.ofBits .f32 0x00000000#32)))
    (cmpf .ogt (subf (minimumf j.y2 i.y2) (maximumf j.y1 i.y1)) (broadcast U2 (Scalar.ofBits .f32 0x00000000#32)))

/-- The next pick's validity, from the last one's and the earlier picks. -/
def validNext (prev : IVec U2 1) (j : Pick F) : List (Pick F) → IVec U2 1
  | [] => prev
  | e :: es => andi prev (xori (es.foldl (fun a i => ori a (meets j i)) (meets j e)) (constantI U2 1 1#1))

/-- Each pick with its validity: the picks still to go, the earlier ones and the last validity given. -/
def valids (earlier : List (Pick F)) (prev : IVec U2 1) : List (Pick F) → List (Pick F × IVec U2 1)
  | [] => []
  | p :: ps => (p, validNext prev p earlier) :: valids (earlier ++ [p]) (validNext prev p earlier) ps

/-- Where a valid pick stands. -/
def keep1 (g : Geo F) (q : Pick F × IVec U2 1) : IVec A80 1 :=
  andi (broadcastTo A80 q.2 (by decide)) (at1 g.flat q.1.w)

/-- Where any valid pick stands. -/
def keeps (g : Geo F) : List (Pick F × IVec U2 1) → IVec A80 1
  | [] => broadcast A80 0#1
  | q :: qs => qs.foldl (fun a p => ori a (keep1 g p)) (keep1 g q)

/-- The overlap of a pick's box with every box: intersection area over union area. -/
def overlap (g : Geo F) (p : Pick F) : FVec F A80 .f32 :=
  have zero : FVec F A80 .f32 := broadcast A80 (Scalar.ofBits .f32 0x00000000#32)
  have inter : FVec F A80 .f32 :=
    mulf (maximumf (subf (minimumf (broadcastTo A80 p.x2 (by decide)) g.x2) (maximumf (broadcastTo A80 p.x1 (by decide)) g.x1)) zero)
      (maximumf (subf (minimumf (broadcastTo A80 p.y2 (by decide)) g.y2) (maximumf (broadcastTo A80 p.y1 (by decide)) g.y1)) zero)
  divf inter (addf (subf (addf (broadcastTo A80 p.area (by decide)) g.area) inter)
    (broadcast A80 (Scalar.ofBits .f32 0x3089705F#32)))

/-- One pick's decay factors: 1 at the pick itself and everywhere if the pick is not valid. -/
def decay1 (g : Geo F) (q : Pick F × IVec U2 1) : FVec F A80 .f32 :=
  select (andi (broadcastTo A80 q.2 (by decide)) (cmpf .one g.flat (broadcastTo A80 q.1.w (by decide))))
    (exp (divf (subf (broadcast A80 (Scalar.ofBits .f32 0x00000000#32)) (mulf (overlap g q.1) (overlap g q.1)))
      (broadcast A80 (Scalar.ofBits .f32 0x3F000000#32))))
    (broadcast A80 (Scalar.ofBits .f32 0x3F800000#32))

/-- A batch's end: the values decayed by the valid picks where they are positive, then negated at the valid picks whose
    value is still over the threshold. -/
def settle (g : Geo F) (v : FVec F A80 .f32) (qs : List (Pick F × IVec U2 1)) : FVec F A80 .f32 :=
  have nv : FVec F A80 .f32 := select (cmpf .ogt v (broadcast A80 (Scalar.ofBits .f32 0x00000000#32)))
    (qs.foldl (fun a q => mulf a (decay1 g q)) v) v
  select (andi (keeps g qs) (cmpf .ogt nv (broadcast A80 (Scalar.ofBits .f32 0x3E4CCCCD#32))))
    (subf (broadcast A80 (Scalar.ofBits .f32 0x00000000#32)) nv) nv

/-- The batch's end over the bare picks. -/
def finish (g : Geo F) (v : FVec F A80 .f32) (ps : List (Pick F)) : FVec F A80 .f32 :=
  settle g v (valids [] (broadcast U2 1#1) ps)

/-- Whether any value is over the threshold. -/
def liveOf (v : FVec F A80 .f32) : BitVec 1 :=
  Scalar.cmpf .ogt (extractAt ![0, 0, 0] (shapeCast U3
    (multiReduction .maximumf [1, 2] U1 (shapeCast B80 v (by decide)) 0xFF800000#32 (by decide) (.inl rfl) rfl) (by decide)) (by decide))
    (Scalar.ofBits .f32 0x3E4CCCCD#32)

/-! ### The steps that go through memory -/

variable {nD : Nat} {τ : Topo} {sig : RefSig} {Λ : Labels}

/-- The eight rows from row `k` of a scratch buffer. -/
abbrev loadRows (a : Memref sig .tc .vmem A16 .f32) (o : Fin 2 → Nat) (h : ∀ i, o i + A8.size i ≤ A16.size i) :
    Prog (TpuEff nD τ sig (Elt F) Λ .tc) (Vec F A8 .f32) :=
  Prog.lift (.load a (Rect.unit (s := A16) o A8.size h).toLoadRect (View.loadsAt_vmem pos_A8))

/-- The store of eight rows at the head of a scratch buffer. -/
abbrev storeRows (a : Memref sig .tc .vmem A16 .f32) (v : Vec F A8 .f32) :
    Prog (TpuEff nD τ sig (Elt F) Λ .tc) PUnit :=
  Prog.lift (.store a (Rect.unit (s := A16) ![0, 0] A8.size (by decide)) v Finset.univ (View.stores_vmem_bits_univ (by decide) rfl) (.inl rfl))

/-- The eight rows of a pair combined to one row, by way of the scratch buffers. -/
def argRowP (a7 a8 : Memref sig .tc .vmem A16 .f32) (p : Pair F A8) :
    Prog (TpuEff nD τ sig (Elt F) Λ .tc) (Pair F A1) := do
  let _ ← loadRows a7 ![0, 0] (by decide)
  storeRows a7 (shapeCast A8 p.1 (by decide))
  let _ ← loadRows a8 ![0, 0] (by decide)
  storeRows a8 (shapeCast A8 p.2 (by decide))
  let v0 ← loadRows a7 ![0, 0] (by decide)
  let f0 ← loadRows a8 ![0, 0] (by decide)
  let v1 ← loadRows a7 ![1, 0] (by decide)
  let f1 ← loadRows a8 ![1, 0] (by decide)
  let v2 ← loadRows a7 ![2, 0] (by decide)
  let f2 ← loadRows a8 ![2, 0] (by decide)
  let v3 ← loadRows a7 ![3, 0] (by decide)
  let f3 ← loadRows a8 ![3, 0] (by decide)
  let v4 ← loadRows a7 ![4, 0] (by decide)
  let f4 ← loadRows a8 ![4, 0] (by decide)
  let v5 ← loadRows a7 ![5, 0] (by decide)
  let f5 ← loadRows a8 ![5, 0] (by decide)
  let v6 ← loadRows a7 ![6, 0] (by decide)
  let f6 ← loadRows a8 ![6, 0] (by decide)
  let v7 ← loadRows a7 ![7, 0] (by decide)
  let f7 ← loadRows a8 ![7, 0] (by decide)
  pure (row0 (tree8 (v0, f0) (v1, f1) (v2, f2) (v3, f3) (v4, f4) (v5, f5) (v6, f6) (v7, f7)))

/-- The next `n` picks of the running values. -/
def picksP (a7 a8 : Memref sig .tc .vmem A16 .f32) (g : Geo F) : ℕ → FVec F A80 .f32 →
    Prog (TpuEff nD τ sig (Elt F) Λ .tc) (List (Pick F))
  | 0, _ => pure []
  | n + 1, cum => do
    let z ← argRowP a7 a8 (fold80 cum g.flat)
    let ps ← picksP a7 a8 g n (drop1 g cum (winner z))
    pure (pickAt g (winner z) :: ps)

/-- One batch: eight picks, then its end. -/
def batchP (a7 a8 : Memref sig .tc .vmem A16 .f32) (g : Geo F) (v : FVec F A80 .f32) :
    Prog (TpuEff nD τ sig (Elt F) Λ .tc) (FVec F A80 .f32) := do
  let ps ← picksP a7 a8 g 8 v
  pure (finish g v ps)

/-- The whole buffer of the values, read. -/
abbrev loadAll (a : Memref sig .tc .vmem A80 .f32) : Prog (TpuEff nD τ sig (Elt F) Λ .tc) (Vec F A80 .f32) :=
  Prog.lift (.load a (Rect.unit (s := A80) ![0, 0] A80.size (by decide)).toLoadRect (View.loadsAt_vmem pos_A80))

/-- The whole buffer of the values, written. -/
abbrev storeAll (a : Memref sig .tc .vmem A80 .f32) (v : Vec F A80 .f32) : Prog (TpuEff nD τ sig (Elt F) Λ .tc) PUnit :=
  Prog.lift (.store a (Rect.unit (s := A80) ![0, 0] A80.size (by decide)) v Finset.univ (View.stores_vmem_bits_univ (by decide) rfl) (.inl rfl))

/-- A trip: the values read, two batches, the result written and returned. -/
def tripP (a6 : Memref sig .tc .vmem A80 .f32) (a7 a8 : Memref sig .tc .vmem A16 .f32) (g : Geo F) :
    Prog (TpuEff nD τ sig (Elt F) Λ .tc) (FVec F A80 .f32) := do
  let v ← loadAll a6
  let v' ← batchP a7 a8 g v
  let v'' ← batchP a7 a8 g v'
  let _ ← loadAll a6
  storeAll a6 (shapeCast A80 v'' (by decide))
  pure v''

/-- The flat index of each entry: `80 * column + 10 * (row mod 8) + row / 8`, as the program computes it. -/
def flatV : FVec F A80 .f32 :=
  have row : IVec A80 32 := iota .tc A80 32 [0] (by decide)
  have col : IVec A80 32 := iota .tc A80 32 [1] (by decide)
  have d : BitVec 32 := Scalar.select (Scalar.cmpi .eq 8#32 0#32) 1#32 8#32
  have r : IVec A80 32 := remsi row (broadcast A80 d)
  have rm : IVec A80 32 := select
    (andi (xori (cmpi .slt r (broadcast A80 0#32)) (broadcastTo A80 (broadcast A80 (Scalar.cmpi .slt d 0#32)) (by decide)))
      (cmpi .ne r (broadcast A80 0#32)))
    (addi r (broadcast A80 d)) r
  have q : IVec A80 32 := divsi row (broadcast A80 8#32)
  have qd : IVec A80 32 := select
    (andi (cmpi .ne (subi (extui 32 (cmpi .sgt row (broadcast A80 0#32)) (by decide)) (extui 32 (cmpi .slt row (broadcast A80 0#32)) (by decide)))
        (broadcast A80 (Scalar.subi (Scalar.extui (Scalar.cmpi .sgt 8#32 0#32)) (Scalar.extui (Scalar.cmpi .slt 8#32 0#32)))))
      (cmpi .ne (remsi row (broadcast A80 8#32)) (broadcast A80 0#32)))
    (subi q (broadcast A80 1#32)) q
  sitofp .f32 (addi (addi (muli col (broadcast A80 80#32)) (muli rm (broadcast A80 10#32))) qd)

/-- The boxes' areas and flat indices beside their coordinates. -/
def geoOf (x1 y1 x2 y2 : FVec F A80 .f32) : Geo F :=
  ⟨flatV, x1, y1, x2, y2, mulf (subf x2 x1) (subf y2 y1)⟩

/-- The values the loop starts from: the scores over the threshold, zero elsewhere. -/
def startV (s : FVec F A80 .f32) : FVec F A80 .f32 :=
  select (cmpf .ogt s (broadcast A80 (Scalar.ofBits .f32 0x3E4CCCCD#32))) s (broadcast A80 (Scalar.ofBits .f32 0x00000000#32))

/-- The whole of a scratch buffer, read and written with one value. -/
def fillP (a : Memref sig .tc .vmem A16 .f32) (x : F .f32) : Prog (TpuEff nD τ sig (Elt F) Λ .tc) PUnit := do
  let _ ← (Prog.lift (.load a (Rect.unit (s := A16) ![0, 0] A16.size (by decide)).toLoadRect (View.loadsAt_vmem (s := A16) pos_A16)) :
    Prog (TpuEff nD τ sig (Elt F) Λ .tc) (Vec F A16 .f32))
  Prog.lift (.store a (Rect.unit (s := A16) ![0, 0] A16.size (by decide)) (shapeCast A16 (broadcast A16 x) (by decide)) Finset.univ
    (View.stores_vmem_bits_univ (by decide) rfl) (.inl rfl))

/-- What precedes the loop: the boxes and scores read, the starting values and the scratch buffers written. -/
def headP (a0 a1 a2 a3 a4 a6 : Memref sig .tc .vmem A80 .f32) (a7 a8 : Memref sig .tc .vmem A16 .f32) :
    Prog (TpuEff nD τ sig (Elt F) Λ .tc) (Geo F) := do
  let x1 ← loadAll a0
  let y1 ← loadAll a1
  let x2 ← loadAll a2
  let y2 ← loadAll a3
  let s ← loadAll a4
  let _ ← loadAll a6
  storeAll a6 (shapeCast A80 (startV (shapeCast A80 s (by decide))) (by decide))
  fillP a7 (Scalar.ofBits .f32 0xFF800000#32)
  fillP a8 (Scalar.ofBits .f32 0x00000000#32)
  pure (geoOf (shapeCast A80 x1 (by decide)) (shapeCast A80 y1 (by decide)) (shapeCast A80 x2 (by decide)) (shapeCast A80 y2 (by decide)))

/-- What follows it: the values copied to the result. -/
def tailP (a5 a6 : Memref sig .tc .vmem A80 .f32) : Prog (TpuEff nD τ sig (Elt F) Λ .tc) PUnit := do
  let v ← loadAll a6
  let _ ← loadAll a5
  storeAll a5 v

end Cert.Nms
-- ==== Proof.Nms.Val.lean ====
/-
  The trip's result as a plain function of the values it reads, and the trip's run: holding the three buffers, it
  leaves that function's value in the first and hands it on; the two scratch buffers come back at some contents.
-/
module

public import proofs.«01_k».proof.Proof.Nms.Ops
public import Idealize.ShloMosaic.Lib.Pipeline.Value

@[expose] public section

noncomputable section

namespace Cert.Nms

open Idealize.ShloMosaic Idealize.SL.Sem
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F]

/-- Row `k` of a pair. -/
def rowAt (o : Fin 2 → Nat) (h : A8.Slices o A1) (p : Pair F A8) : Pair F A1 :=
  (extractStridedSlice A1 o p.1 h, extractStridedSlice A1 o p.2 h)

/-- The eight rows of a pair combined to one row. -/
def argRow (p : Pair F A8) : Pair F A1 :=
  tree8 (rowAt ![0, 0] (by decide) p) (rowAt ![1, 0] (by decide) p) (rowAt ![2, 0] (by decide) p) (rowAt ![3, 0] (by decide) p)
    (rowAt ![4, 0] (by decide) p) (rowAt ![5, 0] (by decide) p) (rowAt ![6, 0] (by decide) p) (rowAt ![7, 0] (by decide) p)

/-- The flat index of the largest of the running values. -/
def winOf (g : Geo F) (cum : FVec F A80 .f32) : FVec F U2 .f32 := winner (argRow (fold80 cum g.flat))

/-- The next `n` picks of the running values. -/
def picks (g : Geo F) : ℕ → FVec F A80 .f32 → List (Pick F)
  | 0, _ => []
  | n + 1, cum => pickAt g (winOf g cum) :: picks g n (drop1 g cum (winOf g cum))

/-- One batch. -/
def batch (g : Geo F) (v : FVec F A80 .f32) : FVec F A80 .f32 := finish g v (picks g 8 v)

/-- One trip: two batches. -/
def trip (g : Geo F) (v : FVec F A80 .f32) : FVec F A80 .f32 := batch g (batch g v)

/-- The combination goes row by row. -/
theorem row0_cmb (a b : Pair F A8) : row0 (cmb a b) = cmb (row0 a) (row0 b) := rfl

/-- The first row of eight pairs' combination is the combination of their first rows. -/
theorem row0_tree8 (l0 l1 l2 l3 l4 l5 l6 l7 : Pair F A8) :
    row0 (tree8 l0 l1 l2 l3 l4 l5 l6 l7)
      = tree8 (row0 l0) (row0 l1) (row0 l2) (row0 l3) (row0 l4) (row0 l5) (row0 l6) (row0 l7) := by
  simp only [tree8, row0_cmb]

variable {nD : Nat} {τ : Topo} {sig : RefSig} {Λ : Labels}

/-- The first row of the rows loaded from row `k`, after a store of eight rows at the head, is row `k` of those stored. -/
theorem loaded_row (a : Memref sig .tc .vmem A16 .f32) (f : a.view.ty.Contents (Elt F)) (w : Vec F A8 .f32) (k : ℕ)
    (hk : k < 8) (h : ∀ i, (![k, 0] : Fin 2 → Nat) i + A8.size i ≤ A16.size i)
    (h0 : ∀ i, (![0, 0] : Fin 2 → Nat) i + A8.size i ≤ A16.size i)
    (hs0 : A8.Slices ![0, 0] A1) (hs : A8.Slices ![k, 0] A1) :
    extractStridedSlice A1 ![0, 0]
        (show Vec F A8 .f32 from a.view.readAt (Elt F) (Rect.unit (s := A16) ![k, 0] A8.size h).toLoadRect
          ((a.access (Rect.unit (s := A16) ![0, 0] A8.size h0)).write (Elt F) f w Finset.univ)) hs0
      = extractStridedSlice A1 ![k, 0] w hs := by
  funext j
  have hj : (j 0).val = 0 := by have := (j 0).isLt; simpa using this
  let x : A8.Idx := fun i => ⟨(![k, 0] : Fin 2 → Nat) i + (j (i.cast hs.1.symm)).val,
    Nat.lt_of_lt_of_le (Nat.add_lt_add_left (j _).isLt _) (hs.2 i)⟩
  refine Eq.trans ?_ (View.read_slice_write_emb (v := a.view) (Rect.unit (s := A16) ![0, 0] A8.size h0) f w
    (M := Finset.univ) (x := x) (Finset.mem_univ _))
  refine congrArg (a.view.read (Elt F) _) (funext fun i => Fin.ext ?_)
  fin_cases i
  · simp [LoadRect.idx, Rect.emb, Rect.toLoadRect, Rect.unit, x]
  · simp [LoadRect.idx, Rect.emb, Rect.toLoadRect, Rect.unit, x]

/-- What the whole-buffer rectangle reads is what the view reads. -/
theorem read_all (a : Memref sig .tc .vmem A80 .f32) (f : a.view.ty.Contents (Elt F))
    (h : ∀ i, (![0, 0] : Fin 2 → Nat) i + A80.size i ≤ A80.size i) :
    (show Vec F A80 .f32 from a.view.readAt (Elt F) (Rect.unit (s := A80) ![0, 0] A80.size h).toLoadRect f)
      = a.view.read (Elt F) f := by
  funext j
  refine congrArg (a.view.read (Elt F) f) (funext fun i => Fin.ext ?_)
  fin_cases i
  · simp [LoadRect.idx, Rect.emb, Rect.toLoadRect, Rect.unit]
  · simp [LoadRect.idx, Rect.emb, Rect.toLoadRect, Rect.unit]

/-- After a store through the whole-buffer rectangle the view reads what was stored. -/
theorem read_put_all (a : Memref sig .tc .vmem A80 .f32) (f : a.view.ty.Contents (Elt F)) (w : Vec F A80 .f32)
    (h : ∀ i, (![0, 0] : Fin 2 → Nat) i + A80.size i ≤ A80.size i) :
    a.view.read (Elt F) ((a.access (Rect.unit (s := A80) ![0, 0] A80.size h)).write (Elt F) f w Finset.univ) = w := by
  funext j
  refine Eq.trans ?_ (View.read_slice_write_emb (v := a.view) (Rect.unit (s := A80) ![0, 0] A80.size h) f w
    (M := Finset.univ) (x := j) (Finset.mem_univ _))
  refine congrArg (a.view.read (Elt F) _) (funext fun i => Fin.ext ?_)
  fin_cases i
  · simp [Rect.emb, Rect.unit]
  · simp [Rect.emb, Rect.unit]

section Run

variable {U : Type} [URA U] {defs : Defs nD τ sig (Elt F) Λ} (𝒱 : Variants) (c : Dev nD) (bd : Option 𝒱.V) (E : Set ℕ)

local notation "𝕄" => MT nD τ sig Unit (Elt F) ℕ U ℕ

/-- A scratch buffer held at some contents. -/
def scr (a : Memref sig .tc .vmem A16 .f32) : sProp 𝕄 :=
  iprop(∃ f : Buf (Elt F) (a.view.loc (c : Thread nD τ)), (a.view.loc (c : Thread nD τ)) ↦{fullShare} f)

/-- The buffer of values held at contents that read as `V`. -/
def val (a : Memref sig .tc .vmem A80 .f32) (V : FVec F A80 .f32) : sProp 𝕄 :=
  iprop(∃ f : Buf (Elt F) (a.view.loc (c : Thread nD τ)), ⌜a.view.read (Elt F) f = V⌝ ∗ (a.view.loc (c : Thread nD τ)) ↦{fullShare} f)

/-- A store's step, the buffer named by the memref stored through. -/
theorem wp_put {s : Shape} (a : Memref sig .tc .vmem s .f32) (r : Rect s) (w : r.shape.Idx → Elt F .f32)
    (f : Buf (Elt F) (a.view.loc (c : Thread nD τ))) {hx} {hm} {α : Type} {k : PUnit → Prog (TpuEff nD τ sig (Elt F) Λ .tc) α}
    {Q : α → sProp 𝕄} :
    ((a.view.loc (c : Thread nD τ)) ↦{fullShare} f)
      ⊢ iprop((((a.view.loc (c : Thread nD τ)) ↦{fullShare} ((a.access r).write (Elt F) f w Finset.univ))
          -∗ wp frame (wpE defs 𝒱 (c : Thread nD τ) bd) E (k ⟨⟩) Q)
        -∗ wp frame (wpE defs 𝒱 (c : Thread nD τ) bd) E (.op (.store a r w Finset.univ hx hm) k) Q) :=
  wp_store 𝒱 (c : Thread nD τ) bd E (m := a) (r := r) (w := w) (Mk := Finset.univ) (f := f) (Finset.subset_univ _)

/-- The rows combined through the scratch buffers are combined directly. -/
theorem wp_argRow (a7 a8 : Memref sig .tc .vmem A16 .f32) (p : Pair F A8) {α : Type}
    (k : Pair F A1 → Prog (TpuEff nD τ sig (Elt F) Λ .tc) α) (Q : α → sProp 𝕄) :
    iprop(scr c a7 ∗ scr c a8 ∗ (scr c a7 -∗ scr c a8 -∗ wp frame (wpE defs 𝒱 (c : Thread nD τ) bd) E (k (argRow p)) Q))
      ⊢ wp frame (wpE defs 𝒱 (c : Thread nD τ) bd) E (argRowP a7 a8 p >>= k) Q := by
  unfold argRowP loadRows storeRows scr
  simp only [Prog.lift, Prog.bind_op, Prog.bind_ret, Prog.pure_eq_ret]
  iintro ⟨⟨%f7, H7⟩, ⟨%f8, H8⟩, Hk⟩
  iapply (wp_load 𝒱 (c : Thread nD τ) bd E (m := a7) (Finset.subset_univ _)) $$ H7; iintro H7
  iapply (wp_put 𝒱 c bd E a7 _ _ f7) $$ H7; iintro H7
  iapply (wp_load 𝒱 (c : Thread nD τ) bd E (m := a8) (Finset.subset_univ _)) $$ H8; iintro H8
  iapply (wp_put 𝒱 c bd E a8 _ _ f8) $$ H8; iintro H8
  iapply (wp_load 𝒱 (c : Thread nD τ) bd E (m := a7) (Finset.subset_univ _)) $$ H7; iintro H7
  iapply (wp_load 𝒱 (c : Thread nD τ) bd E (m := a8) (Finset.subset_univ _)) $$ H8; iintro H8
  iapply (wp_load 𝒱 (c : Thread nD τ) bd E (m := a7) (Finset.subset_univ _)) $$ H7; iintro H7
  iapply (wp_load 𝒱 (c : Thread nD τ) bd E (m := a8) (Finset.subset_univ _)) $$ H8; iintro H8
  iapply (wp_load 𝒱 (c : Thread nD τ) bd E (m := a7) (Finset.subset_univ _)) $$ H7; iintro H7
  iapply (wp_load 𝒱 (c : Thread nD τ) bd E (m := a8) (Finset.subset_univ _)) $$ H8; iintro H8
  iapply (wp_load 𝒱 (c : Thread nD τ) bd E (m := a7) (Finset.subset_univ _)) $$ H7; iintro H7
  iapply (wp_load 𝒱 (c : Thread nD τ) bd E (m := a8) (Finset.subset_univ _)) $$ H8; iintro H8
  iapply (wp_load 𝒱 (c : Thread nD τ) bd E (m := a7) (Finset.subset_univ _)) $$ H7; iintro H7
  iapply (wp_load 𝒱 (c : Thread nD τ) bd E (m := a8) (Finset.subset_univ _)) $$ H8; iintro H8
  iapply (wp_load 𝒱 (c : Thread nD τ) bd E (m := a7) (Finset.subset_univ _)) $$ H7; iintro H7
  iapply (wp_load 𝒱 (c : Thread nD τ) bd E (m := a8) (Finset.subset_univ _)) $$ H8; iintro H8
  iapply (wp_load 𝒱 (c : Thread nD τ) bd E (m := a7) (Finset.subset_univ _)) $$ H7; iintro H7
  iapply (wp_load 𝒱 (c : Thread nD τ) bd E (m := a8) (Finset.subset_univ _)) $$ H8; iintro H8
  iapply (wp_load 𝒱 (c : Thread nD τ) bd E (m := a7) (Finset.subset_univ _)) $$ H7; iintro H7
  iapply (wp_load 𝒱 (c : Thread nD τ) bd E (m := a8) (Finset.subset_univ _)) $$ H8; iintro H8
  rw [row0_tree8]
  simp only [row0]
  have hc : ∀ w : Vec F A8 .f32, shapeCast A8 w (by decide) = w := fun w => shapeCast_self _ _
  rw [loaded_row a7 f7 _ 0 (by decide) (hs := by decide), loaded_row a7 f7 _ 1 (by decide) (hs := by decide), loaded_row a7 f7 _ 2 (by decide) (hs := by decide),
    loaded_row a7 f7 _ 3 (by decide) (hs := by decide), loaded_row a7 f7 _ 4 (by decide) (hs := by decide), loaded_row a7 f7 _ 5 (by decide) (hs := by decide),
    loaded_row a7 f7 _ 6 (by decide) (hs := by decide), loaded_row a7 f7 _ 7 (by decide) (hs := by decide),
    loaded_row a8 f8 _ 0 (by decide) (hs := by decide), loaded_row a8 f8 _ 1 (by decide) (hs := by decide), loaded_row a8 f8 _ 2 (by decide) (hs := by decide),
    loaded_row a8 f8 _ 3 (by decide) (hs := by decide), loaded_row a8 f8 _ 4 (by decide) (hs := by decide), loaded_row a8 f8 _ 5 (by decide) (hs := by decide),
    loaded_row a8 f8 _ 6 (by decide) (hs := by decide), loaded_row a8 f8 _ 7 (by decide) (hs := by decide)]
  rw [hc, hc]
  iapply Hk $$ [H7] [H8]
  · iexists _; iexact H7
  · iexists _; iexact H8

/-- The picks through the scratch buffers are the picks. -/
theorem wp_picks (a7 a8 : Memref sig .tc .vmem A16 .f32) (g : Geo F) (n : ℕ) :
    ∀ (cum : FVec F A80 .f32) {α : Type} (k : List (Pick F) → Prog (TpuEff nD τ sig (Elt F) Λ .tc) α) (Q : α → sProp 𝕄),
    iprop(scr c a7 ∗ scr c a8 ∗ (scr c a7 -∗ scr c a8 -∗ wp frame (wpE defs 𝒱 (c : Thread nD τ) bd) E (k (picks g n cum)) Q))
      ⊢ wp frame (wpE defs 𝒱 (c : Thread nD τ) bd) E (picksP a7 a8 g n cum >>= k) Q := by
  induction n with
  | zero =>
    intro cum α k Q
    iintro ⟨H7, H8, Hk⟩
    iapply Hk $$ [H7] [H8]
    · iexact H7
    · iexact H8
  | succ n ih =>
    intro cum α k Q
    have e : (picksP a7 a8 g (n + 1) cum >>= k : Prog (TpuEff nD τ sig (Elt F) Λ .tc) α)
        = argRowP a7 a8 (fold80 cum g.flat) >>= fun z => picksP a7 a8 g n (drop1 g cum (winner z))
            >>= fun ps => k (pickAt g (winner z) :: ps) := by
      rw [picksP]; simp only [bind_assoc, pure_bind]
    rw [e]
    iintro ⟨H7, H8, Hk⟩
    iapply (wp_argRow 𝒱 c bd E a7 a8)
    isplitl [H7]; · iexact H7
    isplitl [H8]; · iexact H8
    iintro H7 H8
    iapply (ih _ _ _)
    isplitl [H7]; · iexact H7
    isplitl [H8]; · iexact H8
    iintro H7 H8
    iapply Hk $$ [H7] [H8]
    · iexact H7
    · iexact H8

attribute [local irreducible] picksP picks finish

/-- A batch through the scratch buffers is the batch. -/
theorem wp_batch (a7 a8 : Memref sig .tc .vmem A16 .f32) (g : Geo F) (v : FVec F A80 .f32) {α : Type}
    (k : FVec F A80 .f32 → Prog (TpuEff nD τ sig (Elt F) Λ .tc) α) (Q : α → sProp 𝕄) :
    iprop(scr c a7 ∗ scr c a8 ∗ (scr c a7 -∗ scr c a8 -∗ wp frame (wpE defs 𝒱 (c : Thread nD τ) bd) E (k (batch g v)) Q))
      ⊢ wp frame (wpE defs 𝒱 (c : Thread nD τ) bd) E (batchP a7 a8 g v >>= k) Q := by
  unfold batchP batch
  rw [bind_assoc]
  exact wp_picks (U := U) (defs := defs) 𝒱 c bd E a7 a8 g 8 v (fun ps => k (finish g v ps)) Q

/-- A trip leaves its result in the buffer of values and hands it on. -/
theorem wp_trip (a6 : Memref sig .tc .vmem A80 .f32) (a7 a8 : Memref sig .tc .vmem A16 .f32) (g : Geo F) (V : FVec F A80 .f32)
    {α : Type} (k : FVec F A80 .f32 → Prog (TpuEff nD τ sig (Elt F) Λ .tc) α) (Q : α → sProp 𝕄) :
    iprop(val c a6 V ∗ scr c a7 ∗ scr c a8 ∗ (val c a6 (trip g V) -∗ scr c a7 -∗ scr c a8
        -∗ wp frame (wpE defs 𝒱 (c : Thread nD τ) bd) E (k (trip g V)) Q))
      ⊢ wp frame (wpE defs 𝒱 (c : Thread nD τ) bd) E (tripP a6 a7 a8 g >>= k) Q := by
  unfold tripP loadAll storeAll val
  simp only [Prog.lift, Prog.bind_op, Prog.bind_ret, Prog.pure_eq_ret, bind_assoc]
  iintro ⟨⟨%f, %hf, H6⟩, H7, H8, Hk⟩
  iapply (wp_load 𝒱 (c : Thread nD τ) bd E (m := a6) (Finset.subset_univ _)) $$ H6; iintro H6
  have hv : a6.view.readAt (Elt F) (Rect.unit (s := A80) ![0, 0] ![80, 128] (by decide)).toLoadRect f = V :=
    (read_all a6 f (by decide)).trans hf
  rw [hv]
  iapply (wp_batch 𝒱 c bd E a7 a8)
  isplitl [H7]; · iexact H7
  isplitl [H8]; · iexact H8
  iintro H7 H8
  iapply (wp_batch 𝒱 c bd E a7 a8)
  isplitl [H7]; · iexact H7
  isplitl [H8]; · iexact H8
  iintro H7 H8
  iapply (wp_load 𝒱 (c : Thread nD τ) bd E (m := a6) (Finset.subset_univ _)) $$ H6; iintro H6
  iapply (wp_put 𝒱 c bd E a6 _ _ f) $$ H6; iintro H6
  iapply Hk $$ [H6] [H7] [H8]
  · iexists _
    isplitr; swap; · iexact H6
    ipureintro
    exact (read_put_all a6 f _ (by decide)).trans (shapeCast_self _ _)
  · iexact H7
  · iexact H8

end Run

end Cert.Nms
-- ==== Proof.Nms.Loop.lean ====
/-
  The whole kernel's run, over any program whose loop function is the test, one trip and the call of itself: the
  loop's specification by the number of trips the counter still allows, and what surrounds the loop.
-/
module

public import proofs.«01_k».proof.Proof.Nms.Val
public import Idealize.ShloMosaic.Lib.WordCmp

@[expose] public section

noncomputable section

namespace Cert.Nms

open Idealize.ShloMosaic Idealize.SL.Sem
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F]

/-- The values after at most `k` more trips: a trip runs while the flag is set, the flag after it saying whether any
    value is over the threshold. -/
def iter (g : Geo F) : ℕ → BitVec 1 → FVec F A80 .f32 → FVec F A80 .f32
  | 0, _, V => V
  | k + 1, b, V => if b = 1#1 then iter g k (liveOf (trip g V)) (trip g V) else V

/-- The kernel's result from its five inputs. -/
def result (x1 y1 x2 y2 s : FVec F A80 .f32) : FVec F A80 .f32 :=
  iter (geoOf x1 y1 x2 y2) 10240 1#1 (startV s)

variable {nD : Nat} {τ : Topo} {sig : RefSig} {Λ : Labels}
variable {U : Type} [URA U] {defs : Defs nD τ sig (Elt F) Λ} (c : Dev nD) (E : Set ℕ)

local notation "𝕄" => MT nD τ sig Unit (Elt F) ℕ U ℕ

attribute [local irreducible] tripP trip headP tailP

section Loop

variable (a6 : Memref sig .tc .vmem A80 .f32) (a7 a8 : Memref sig .tc .vmem A16 .f32) (g : Geo F)
  (l : Λ.Label) (args : BitVec 32 → BitVec 1 → Λ.Args l) (res : BitVec 32 → BitVec 1 → Λ.Result l)

/-- The three buffers the loop works on, the values at `V`. -/
def held (V : FVec F A80 .f32) : sProp 𝕄 := iprop(val c a6 V ∗ scr c a7 ∗ scr c a8)

/-- The loop's specification with `k` trips left on the counter: from the values `V` it returns some result, the values
    after those trips in place. -/
def spec (k : ℕ) (b : BitVec 1) (V : FVec F A80 .f32) : sWPT 𝕄 (Λ.Result l) := do
  sWPT.consume (held c a6 a7 a8 V)
  let r ← sWPT.arbitrary
  sWPT.produce (held c a6 a7 a8 (iter g k b V))
  pure r

/-- The loop's statement from a pass on: what is held goes in, and what the remaining passes make of it comes out. -/
theorem spec_apply (k : ℕ) (b : BitVec 1) (V : FVec F A80 .f32) (K : Λ.Result l → sProp 𝕄) :
    spec c a6 a7 a8 g l k b V K
      = iprop(held c a6 a7 a8 V ∗ ∀ r : Λ.Result l, (held c a6 a7 a8 (iter g k b V) -∗ K r)) := rfl

/-- Below the bound on passes the loop's test is its flag. -/
theorem and_lt (b : BitVec 1) (i : ℕ) (h : i < 10240) :
    Scalar.andi b (Scalar.cmpi .slt (BitVec.ofNat 32 i) 10240#32) = b := by
  have e : Scalar.cmpi .slt (BitVec.ofNat 32 i) (BitVec.ofNat 32 10240) = BitVec.ofBool (decide (i < 10240)) :=
    WordCmp.cmpi_slt_ofNat (by omega) (by decide)
  rw [show (10240#32 : BitVec 32) = BitVec.ofNat 32 10240 from rfl, e, decide_eq_true h]
  revert b; decide

/-- At the bound the loop's test fails. -/
theorem and_end (b : BitVec 1) : ¬Scalar.andi b (Scalar.cmpi .slt (BitVec.ofNat 32 10240) 10240#32) = 1#1 := by
  revert b; decide

/-- The counter's word counts up by one. -/
theorem addi_one (i : ℕ) : Scalar.addi (BitVec.ofNat 32 i) 1#32 = BitVec.ofNat 32 (i + 1) := by
  show BitVec.ofNat 32 i + 1#32 = _
  rw [BitVec.ofNat_add]

/-- The loop's function meets its specification, by induction on the trips left. -/
theorem spec_le
    (hd : ∀ i b, defs .tc l (args i b) = if Scalar.andi b (Scalar.cmpi .slt i 10240#32) = 1#1
      then tripP a6 a7 a8 g >>= fun v => Prog.lift (.call l (args (Scalar.addi i 1#32) (liveOf v)))
      else pure (res i b)) :
    ∀ k i, i + k = 10240 → ∀ b V K, spec (U := U) c a6 a7 a8 g l k b V K
      ⊢ wp frame (wpE defs Variants.nat (c : Thread nD τ) (some k)) E (defs .tc l (args (BitVec.ofNat 32 i) b)) K := by
  intro k
  induction k with
  | zero =>
    intro i hi b V K
    obtain rfl : i = 10240 := by omega
    rw [spec_apply, hd, if_neg (and_end b)]
    simp only [Prog.pure_eq_ret]
    iintro ⟨H, Hk⟩
    rw [wp_ret]; imodintro
    iapply Hk
    simp only [iter]; iexact H
  | succ k ih =>
    intro i hi b V K
    rw [spec_apply, hd, and_lt b i (by omega)]
    by_cases hb : b = 1#1
    · rw [if_pos hb]
      unfold held
      iintro ⟨⟨H6, H7, H8⟩, Hk⟩
      iapply (wp_trip Variants.nat c (some (k + 1)) E a6 a7 a8 g V)
      isplitl [H6]; · iexact H6
      isplitl [H7]; · iexact H7
      isplitl [H8]; · iexact H8
      iintro H6 H7 H8
      rw [addi_one]
      simp only [Prog.lift]
      iapply (wp_call_spec Variants.nat (c : Thread nD τ) (some (k + 1)) E
        (spec c a6 a7 a8 g l k (liveOf (trip g V)) (trip g V)) k
        (fun u hu => by cases hu; exact Nat.lt_succ_self k) (ih (i + 1) (by omega) (liveOf (trip g V)) (trip g V)))
      rw [spec_apply]; unfold held
      isplitl [H6 H7 H8]
      · isplitl [H6]; · iexact H6
        isplitl [H7]; · iexact H7
        iexact H8
      iintro %r H
      rw [wp_ret]; imodintro
      iapply Hk
      simp only [iter, if_pos hb]
      iexact H
    · rw [if_neg hb]
      simp only [Prog.pure_eq_ret]
      iintro ⟨H, Hk⟩
      rw [wp_ret]; imodintro
      iapply Hk
      simp only [iter, if_neg hb]; iexact H

end Loop

/-! ### Around the loop -/

section Around

variable (𝒱 : Variants) (bd : Option 𝒱.V)

/-- A load of a whole buffer of values, held at `V`, goes on at `V`. -/
theorem wp_loadAll (a : Memref sig .tc .vmem A80 .f32) (V : FVec F A80 .f32) {α : Type}
    (k : Vec F A80 .f32 → Prog (TpuEff nD τ sig (Elt F) Λ .tc) α) (Q : α → sProp 𝕄) :
    val c a V ⊢ iprop((val c a V -∗ wp frame (wpE defs 𝒱 (c : Thread nD τ) bd) E (k V) Q)
      -∗ wp frame (wpE defs 𝒱 (c : Thread nD τ) bd) E (loadAll a >>= k) Q) := by
  unfold val loadAll
  simp only [Prog.lift, Prog.bind_op, Prog.bind_ret]
  iintro ⟨%f, %hf, H⟩ Hk
  iapply (wp_load 𝒱 (c : Thread nD τ) bd E (m := a) (Finset.subset_univ _)) $$ H; iintro H
  have hv : a.view.readAt (Elt F) (Rect.unit (s := A80) ![0, 0] ![80, 128] (by decide)).toLoadRect f = V :=
    (read_all a f (by decide)).trans hf
  rw [hv]
  iapply Hk
  iexists _
  isplitr; swap; · iexact H
  ipureintro; exact hf

/-- A store of a whole buffer of values leaves it at what was stored. -/
theorem wp_storeAll (a : Memref sig .tc .vmem A80 .f32) (V W : FVec F A80 .f32) {α : Type}
    (k : PUnit → Prog (TpuEff nD τ sig (Elt F) Λ .tc) α) (Q : α → sProp 𝕄) :
    val c a V ⊢ iprop((val c a W -∗ wp frame (wpE defs 𝒱 (c : Thread nD τ) bd) E (k ⟨⟩) Q)
      -∗ wp frame (wpE defs 𝒱 (c : Thread nD τ) bd) E (storeAll a W >>= k) Q) := by
  unfold val storeAll
  simp only [Prog.lift, Prog.bind_op, Prog.bind_ret]
  iintro ⟨%f, %hf, H⟩ Hk
  iapply (wp_put 𝒱 c bd E a _ _ f) $$ H; iintro H
  iapply Hk
  iexists _
  isplitr; swap; · iexact H
  ipureintro
  exact read_put_all a f _ (by decide)

/-- A scratch buffer filled is still a scratch buffer. -/
theorem wp_fill (a : Memref sig .tc .vmem A16 .f32) (x : F .f32) {α : Type}
    (k : PUnit → Prog (TpuEff nD τ sig (Elt F) Λ .tc) α) (Q : α → sProp 𝕄) :
    scr c a ⊢ iprop((scr c a -∗ wp frame (wpE defs 𝒱 (c : Thread nD τ) bd) E (k ⟨⟩) Q)
      -∗ wp frame (wpE defs 𝒱 (c : Thread nD τ) bd) E (fillP a x >>= k) Q) := by
  unfold scr fillP
  simp only [Prog.lift, Prog.bind_op, Prog.bind_ret]
  iintro ⟨%f, H⟩ Hk
  iapply (wp_load 𝒱 (c : Thread nD τ) bd E (m := a) (Finset.subset_univ _)) $$ H; iintro H
  iapply (wp_put 𝒱 c bd E a _ _ f) $$ H; iintro H
  iapply Hk
  iexists _; iexact H

end Around

attribute [local irreducible] fillP val scr

/-- One effect, then the rest. -/
theorem lift_bind.{v} {A : Type → Type v} {α β : Type} (e : A α) (k : α → Prog A β) : Prog.lift e >>= k = Prog.op e k := rfl

/-- The whole kernel: from the five inputs at `X1 … S` and the other buffers at anything, it leaves the result buffer at
    `result`, the inputs as they were and the other buffers at something. -/
theorem wp_kernel (a0 a1 a2 a3 a4 a5 a6 : Memref sig .tc .vmem A80 .f32) (a7 a8 : Memref sig .tc .vmem A16 .f32)
    (l : Λ.Label) (args : Geo F → BitVec 32 → BitVec 1 → Λ.Args l) (res : BitVec 32 → BitVec 1 → Λ.Result l)
    (hd : ∀ g i b, defs .tc l (args g i b) = if Scalar.andi b (Scalar.cmpi .slt i 10240#32) = 1#1
      then tripP a6 a7 a8 g >>= fun v => Prog.lift (.call l (args g (Scalar.addi i 1#32) (liveOf v)))
      else pure (res i b))
    (X1 Y1 X2 Y2 S : FVec F A80 .f32) (Q : PUnit → sProp 𝕄) :
    iprop(val c a0 X1 ∗ val c a1 Y1 ∗ val c a2 X2 ∗ val c a3 Y2 ∗ val c a4 S ∗ (∃ V, val c a5 V) ∗ (∃ V, val c a6 V)
        ∗ scr c a7 ∗ scr c a8
        ∗ (val c a0 X1 -∗ val c a1 Y1 -∗ val c a2 X2 -∗ val c a3 Y2 -∗ val c a4 S -∗ val c a5 (result X1 Y1 X2 Y2 S)
          -∗ (∃ V, val c a6 V) -∗ scr c a7 -∗ scr c a8 -∗ Q ⟨⟩))
      ⊢ wp frame (wpE defs Variants.nat (c : Thread nD τ) none) E
          (headP a0 a1 a2 a3 a4 a6 a7 a8 >>= fun g => (Prog.lift (.call l (args g 0#32 1#1)) :
            Prog (TpuEff nD τ sig (Elt F) Λ .tc) (Λ.Result l)) >>= fun _ => tailP a5 a6) Q := by
  unfold headP tailP
  simp only [bind_assoc, pure_bind]
  iintro ⟨H0, H1, H2, H3, H4, ⟨%V5, H5⟩, ⟨%V6, H6⟩, H7, H8, Hk⟩
  iapply (wp_loadAll c E Variants.nat none a0 X1) $$ H0; iintro H0
  iapply (wp_loadAll c E Variants.nat none a1 Y1) $$ H1; iintro H1
  iapply (wp_loadAll c E Variants.nat none a2 X2) $$ H2; iintro H2
  iapply (wp_loadAll c E Variants.nat none a3 Y2) $$ H3; iintro H3
  iapply (wp_loadAll c E Variants.nat none a4 S) $$ H4; iintro H4
  iapply (wp_loadAll c E Variants.nat none a6 V6) $$ H6; iintro H6
  rw [shapeCast_self, shapeCast_self, shapeCast_self, shapeCast_self, shapeCast_self, shapeCast_self]
  iapply (wp_storeAll c E Variants.nat none a6 V6) $$ H6; iintro H6
  iapply (wp_fill c E Variants.nat none a7) $$ H7; iintro H7
  iapply (wp_fill c E Variants.nat none a8) $$ H8; iintro H8
  rw [lift_bind]
  iapply (wp_call_spec Variants.nat (c : Thread nD τ) none E
    (spec c a6 a7 a8 (geoOf X1 Y1 X2 Y2) l 10240 1#1 (startV S)) 10240
    (fun u hu => nomatch hu)
    (spec_le c E a6 a7 a8 (geoOf X1 Y1 X2 Y2) l (args (geoOf X1 Y1 X2 Y2)) res (hd _) 10240 0 (by decide) 1#1 (startV S)))
  rw [spec_apply]; unfold held
  isplitl [H6 H7 H8]
  · isplitl [H6]; · iexact H6
    isplitl [H7]; · iexact H7
    iexact H8
  iintro %r ⟨H6, H7, H8⟩
  iapply (wp_loadAll c E Variants.nat none a6 _) $$ H6; iintro H6
  iapply (wp_loadAll c E Variants.nat none a5 V5) $$ H5; iintro H5
  have e : ∀ V, (storeAll a5 V : Prog (TpuEff nD τ sig (Elt F) Λ .tc) PUnit) = storeAll a5 V >>= fun u => pure u :=
    fun V => (bind_pure _).symm
  rw [e]
  iapply (wp_storeAll c E Variants.nat none a5 V5) $$ H5; iintro H5
  simp only [Prog.pure_eq_ret]
  rw [wp_ret]; imodintro
  iapply Hk $$ [H0] [H1] [H2] [H3] [H4] [H5] [H6] [H7] [H8]
  · iexact H0
  · iexact H1
  · iexact H2
  · iexact H3
  · iexact H4
  · iexact H5
  · iexists _; iexact H6
  · iexact H7
  · iexact H8

end Cert.Nms
-- ==== Proof.Nms.Same.lean ====
module

public import proofs.«01_k».proof.KernelIdeal
public import proofs.«01_k».proof.Proof.Nms.Ops

@[expose] public section

noncomputable section

namespace Cert.KernelIdeal

open Idealize.ShloMosaic Idealize.SL.Sem Cert.Nms

variable {F : FTy → Type} [FloatOps F] [Facts]

set_option maxRecDepth 65536 in
set_option maxHeartbeats 4000000 in
/-- The loop's function is the test, one trip and the call of itself on the next counter. -/
theorem while_eq (arg6 : Memref sig .tc .vmem S80x128 .f32) (harg6 : arg6.IsWhole) (v76 : FVec F S80x128 .f32) (arg7 : Memref sig .tc .vmem S16x128 .f32) (harg7 : arg7.IsWhole) (arg8 : Memref sig .tc .vmem S16x128 .f32) (harg8 : arg8.IsWhole) (v1 v3 v5 v7 v10 : FVec F S80x128 .f32) (arg9 : BitVec 32) (arg10 : BitVec 1) :
    cc0_while1 arg6 harg6 v76 arg7 harg7 arg8 harg8 v1 v3 v5 v7 v10 arg9 arg10
      = if Scalar.andi arg10 (Scalar.cmpi .slt arg9 10240#32) = 1#1 then do
          let v ← tripP arg6 arg7 arg8 ⟨v76, v1, v3, v5, v7, v10⟩
          Prog.lift (.call (1 : (Λ₀ F).Label) ⟨arg6, harg6, v76, arg7, harg7, arg8, harg8, v1, v3, v5, v7, v10, Scalar.addi arg9 1#32, liveOf v⟩)
        else pure (arg9, arg10) := by
  sl_kernel_rfl

set_option maxRecDepth 65536 in
/-- The kernel is what precedes the loop, the loop from counter 0 and the copy of its values to the result. -/
theorem kernel_eq (arg0 : Memref sig .tc .vmem S80x128 .f32) (harg0 : arg0.IsWhole) (arg1 : Memref sig .tc .vmem S80x128 .f32) (harg1 : arg1.IsWhole)
    (arg2 : Memref sig .tc .vmem S80x128 .f32) (harg2 : arg2.IsWhole) (arg3 : Memref sig .tc .vmem S80x128 .f32) (harg3 : arg3.IsWhole)
    (arg4 : Memref sig .tc .vmem S80x128 .f32) (harg4 : arg4.IsWhole) (arg5 : Memref sig .tc .vmem S80x128 .f32) (harg5 : arg5.IsWhole)
    (arg6 : Memref sig .tc .vmem S80x128 .f32) (harg6 : arg6.IsWhole) (arg7 : Memref sig .tc .vmem S16x128 .f32) (harg7 : arg7.IsWhole)
    (arg8 : Memref sig .tc .vmem S16x128 .f32) (harg8 : arg8.IsWhole) :
    cc0__nms_kernel (F := F) arg0 harg0 arg1 harg1 arg2 harg2 arg3 harg3 arg4 harg4 arg5 harg5 arg6 harg6 arg7 harg7 arg8 harg8
      = (do
        let g ← headP arg0 arg1 arg2 arg3 arg4 arg6 arg7 arg8
        let _ ← Prog.lift (.call (1 : (Λ₀ F).Label) ⟨arg6, harg6, g.flat, arg7, harg7, arg8, harg8, g.x1, g.y1, g.x2, g.y2, g.area, 0#32, 1#1⟩)
        tailP arg5 arg6) := by
  sl_kernel_rfl

end Cert.KernelIdeal
-- ==== Proof.Nms.IdealRun.lean ====
/-
  The launch: every execution of the program ends, the arguments as they were, the counters at zero, and the other
  buffers as the operations after the kernel compute them from the kernel's result.
-/
module

public import proofs.«01_k».proof.Proof.Gen.KernelIdeal.Launch
public import proofs.«01_k».proof.Proof.Gen.KernelIdeal.Points
public import proofs.«01_k».proof.Proof.Nms.Same
public import proofs.«01_k».proof.Proof.Nms.Loop
public import Idealize.ShloMosaic.Lib.Pipeline.FrameBody
public import Idealize.ShloMosaic.Lib.Pipeline.FrameSuffix
public import Idealize.ShloMosaic.Lib.Tactic
public import Idealize.ShloMosaic.Lib.Claim

@[expose] public section

set_option maxRecDepth 16384

noncomputable section

namespace Cert.KernelIdeal.Run

open Cert.KernelIdeal.Gen Cert.Nms
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The operations before and after the kernel -/

/-- What the buffers hold when the kernel starts. -/
abbrev atStart (c : Dev nD) : Valuation τ sig (Elt F) := StableHlo.after hostOps0 (fun b => m (c, b))

/-- The same, a buffer given by its reference. -/
abbrev started (c : Dev nD) (b : Ref sig .tc) : Buf (Elt F) ((c : Thread nD τ).loc b) := atStart m c (Proc.devRef .tc b)

/-- The host operations before the launch allocate nothing. -/
theorem before_fresh : (hostOps0 : List (HloOp τ sig (Elt F))).Forall fun op => op.fresh = ∅ := by
  simp only [List.Forall]; repeat' constructor

/-- Nor do those after it. -/
theorem later_fresh : (hostOps1 : List (HloOp τ sig (Elt F))).Forall fun op => op.fresh = ∅ := by
  simp only [List.Forall]; repeat' constructor

set_option maxHeartbeats 800000 in
/-- The program is the operations before the kernel, the kernel, the operations after it. -/
theorem shape (𝒱₀ : Variants) : Pipeline.HMainK (Ix := Unit) (Name := ℕ) (U := UR sig nD τ) (Lvl := ℕ) (cfgs (F := F)) 0 defs₀ 𝒱₀ m (main (F := F))
    (started m) (fun _ => Pipeline.chain ([hostOps1].map StableHlo.seq)) := by
  have h := Pipeline.hmain_around (Ix := Unit) (Name := ℕ) (U := UR sig nD τ) (Lvl := ℕ) (cfgs (F := F)) 0 defs₀ 𝒱₀ m main [hostOps0] [hostOps1]
    (by simp only [List.Forall]; exact hostOps0_sub)
    (by simp only [List.Forall]; exact before_fresh) main_chain
  have e : List.flatten [hostOps0] = (hostOps0 : List (HloOp τ sig (Elt F))) := by simp only [List.flatten_cons, List.flatten_nil, List.append_nil]
  rw [e] at h
  exact h

/-- A statement of every later operation. -/
theorem later_all {P : HloOp τ sig (Elt F) → Prop} (h : (hostOps1 : List (HloOp τ sig (Elt F))).Forall P) :
    ∀ ops ∈ ([hostOps1] : List (List (HloOp τ sig (Elt F)))), ∀ op ∈ ops, P op := by
  intro ops hops op hop
  obtain rfl := List.mem_singleton.mp hops
  exact (List.forall_iff_forall_mem.mp h) op hop

/-- The operations after the launch use only buffers that the launch leaves to them. -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts0.arr_unscoped]
  exact fun ops hops op hop => Pipeline.sub_ucRefs op (later_all (F := F) hostOps1_sub ops hops op hop)

set_option maxHeartbeats 800000 in
/-- No later operation writes an array of the kernel. -/
theorem later_keeps : ∀ ops ∈ ([hostOps1] : List (List (HloOp τ sig (Elt F)))), ∀ op ∈ ops,
    ∀ w, Proc.devRef .tc (Pipeline.arrRef spec0 w) ∉ op.writes := by
  refine later_all ?_
  simp only [List.Forall]
  repeat' apply And.intro
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No operation before the kernel writes an argument. -/
theorem started_arg0 (c : Dev nD) : started m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The operations before the launch leave the second argument alone. -/
theorem started_arg1 (c : Dev nD) : started m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation after the kernel writes an argument. -/
theorem ended_arg0 (dats : (p : Fin _) → (c : Dev nD) → Dat τ (Elt F) Unit ℕ (UR sig nD τ) ℕ (cfgs (F := F) p) c) (c : Dev nD) :
    Pipeline.afterTail₀ (cfgs (F := F)) dats 0 (atStart m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (atStart m c) _ main_arg0 (by exact (by decide : ∀ w, Pipeline.arrRef spec0 w ≠ main_arg0))]
  exact started_arg0 m c

/-- The whole program leaves the second argument alone. -/
theorem ended_arg1 (dats : (p : Fin _) → (c : Dev nD) → Dat τ (Elt F) Unit ℕ (UR sig nD τ) ℕ (cfgs (F := F) p) c) (c : Dev nD) :
    Pipeline.afterTail₀ (cfgs (F := F)) dats 0 (atStart m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (atStart m c) _ main_arg1 (by exact (by decide : ∀ w, Pipeline.arrRef spec0 w ≠ main_arg1))]
  exact started_arg1 m c

/-! ### The kernel's data -/

/-- A window's block, read off its array as the kernel finds it. -/
def block (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (started m c (Pipeline.arrRef spec0 w))

/-- The result block from the five input blocks. -/
def outcome (c : Dev nD) (t : Fin (cfg0 (F := F)).N) : FVec F A80 .f32 :=
  result (block m c 0 t) (block m c 1 t) (block m c 2 t) (block m c 3 t) (block m c 4 t)

/-- The kernel's data: the arrays as it finds them, each input block left in place, the result block at `outcome`. -/
def data (_ : Fin 1) (c : Dev nD) : Dat τ (Elt F) Unit ℕ (UR sig nD τ) ℕ (cfg0 (F := F)) c where
  A w := started m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => outcome m c t
  Φ _ := Pipeline.ΦA spec0 c
  q _ := fullShare
  owed _ := 0

attribute [local irreducible] block outcome

/-- Each array of the launch holds what the host code before it wrote. -/
theorem data_A (c : Dev nD) (w : Fin (cfg0 (F := F)).W) : (data m 0 c).A w = started m c (Pipeline.arrRef spec0 w) := by
  dsimp only [data]

/-- The body leaves input 0's block as it was. -/
theorem left0 (c : Dev nD) (t : Fin (cfg0 (F := F)).N) : (data m 0 c).after 0 t = block m c 0 t := by dsimp only [data]; rfl
/-- The body leaves input 1's block as it was. -/
theorem left1 (c : Dev nD) (t : Fin (cfg0 (F := F)).N) : (data m 0 c).after 1 t = block m c 1 t := by dsimp only [data]; rfl
/-- The body leaves input 2's block as it was. -/
theorem left2 (c : Dev nD) (t : Fin (cfg0 (F := F)).N) : (data m 0 c).after 2 t = block m c 2 t := by dsimp only [data]; rfl
/-- The body leaves input 3's block as it was. -/
theorem left3 (c : Dev nD) (t : Fin (cfg0 (F := F)).N) : (data m 0 c).after 3 t = block m c 3 t := by dsimp only [data]; rfl
/-- The body leaves input 4's block as it was. -/
theorem left4 (c : Dev nD) (t : Fin (cfg0 (F := F)).N) : (data m 0 c).after 4 t = block m c 4 t := by dsimp only [data]; rfl
/-- The body leaves its outcome in the output's block. -/
theorem left5 (c : Dev nD) (t : Fin (cfg0 (F := F)).N) : (data m 0 c).after 5 t = outcome m c t := by dsimp only [data]; rfl

/-- An input window's buffer holds its block when the body starts. -/
theorem found0 (c : Dev nD) (t : Fin (cfg0 (F := F)).N) (d) : (data m 0 c).before 0 t d = block m c 0 t :=
  ((data m 0 c).before_in_eq_fetched 0 rfl (fun _ => rfl) (fun _ _ _ => rfl)
    (fun t => by rw [left0]; unfold Dat.blockOf block; rw [data_A]; rfl) t d).trans (by unfold Dat.fetched Dat.blockOf block; rw [data_A]; rfl)
/-- The body finds input 1's block in its buffer. -/
theorem found1 (c : Dev nD) (t : Fin (cfg0 (F := F)).N) (d) : (data m 0 c).before 1 t d = block m c 1 t :=
  ((data m 0 c).before_in_eq_fetched 1 rfl (fun _ => rfl) (fun _ _ _ => rfl)
    (fun t => by rw [left1]; unfold Dat.blockOf block; rw [data_A]; rfl) t d).trans (by unfold Dat.fetched Dat.blockOf block; rw [data_A]; rfl)
/-- The body finds input 2's block in its buffer. -/
theorem found2 (c : Dev nD) (t : Fin (cfg0 (F := F)).N) (d) : (data m 0 c).before 2 t d = block m c 2 t :=
  ((data m 0 c).before_in_eq_fetched 2 rfl (fun _ => rfl) (fun _ _ _ => rfl)
    (fun t => by rw [left2]; unfold Dat.blockOf block; rw [data_A]; rfl) t d).trans (by unfold Dat.fetched Dat.blockOf block; rw [data_A]; rfl)
/-- The body finds input 3's block in its buffer. -/
theorem found3 (c : Dev nD) (t : Fin (cfg0 (F := F)).N) (d) : (data m 0 c).before 3 t d = block m c 3 t :=
  ((data m 0 c).before_in_eq_fetched 3 rfl (fun _ => rfl) (fun _ _ _ => rfl)
    (fun t => by rw [left3]; unfold Dat.blockOf block; rw [data_A]; rfl) t d).trans (by unfold Dat.fetched Dat.blockOf block; rw [data_A]; rfl)
/-- The body finds input 4's block in its buffer. -/
theorem found4 (c : Dev nD) (t : Fin (cfg0 (F := F)).N) (d) : (data m 0 c).before 4 t d = block m c 4 t :=
  ((data m 0 c).before_in_eq_fetched 4 rfl (fun _ => rfl) (fun _ _ _ => rfl)
    (fun t => by rw [left4]; unfold Dat.blockOf block; rw [data_A]; rfl) t d).trans (by unfold Dat.fetched Dat.blockOf block; rw [data_A]; rfl)

/-! ### The body -/

/-- A whole memref owned is its buffer held. -/
theorem owns_val (c : Dev nD) (a : Memref sig .tc .vmem A80 .f32) (h : a.IsWhole) (V : FVec F A80 .f32) :
    (owns (c : Thread nD τ) a fullShare V : sProp 𝕄) = val c a V := by
  unfold owns val; rw [h.set_eq_univ]

/-- Owning a whole array is owning its values … -/
theorem to_val (c : Dev nD) (a : Memref sig .tc .vmem A80 .f32) (h : a.IsWhole) (V : FVec F A80 .f32) :
    (owns (c : Thread nD τ) a fullShare V : sProp 𝕄) ⊢ val c a V := (owns_val c a h V) ▸ .rfl

/-- … and the other way round. -/
theorem of_val (c : Dev nD) (a : Memref sig .tc .vmem A80 .f32) (h : a.IsWhole) (V : FVec F A80 .f32) :
    val c a V ⊢ (owns (c : Thread nD τ) a fullShare V : sProp 𝕄) := (owns_val c a h V) ▸ .rfl

/-- The loop's arguments, in the order the program passes them. -/
abbrev passed (g : Geo F) (i : BitVec 32) (b : BitVec 1) : (Λ₀ F).Args (1 : (Λ₀ F).Label) :=
  ⟨Memref.whole cc0_scratch0, Memref.isWhole_whole _, g.flat, Memref.whole cc0_scratch1, Memref.isWhole_whole _,
    Memref.whole cc0_scratch2, Memref.isWhole_whole _, g.x1, g.y1, g.x2, g.y2, g.area, i, b⟩

/-- The loop's row of the table of functions is the test, one trip and the call of itself. -/
theorem row_loop (g : Geo F) (i : BitVec 32) (b : BitVec 1) :
    defs₀ (F := F) .tc (1 : (Λ₀ F).Label) (passed g i b)
      = if Scalar.andi b (Scalar.cmpi .slt i 10240#32) = 1#1
        then tripP (Memref.whole cc0_scratch0) (Memref.whole cc0_scratch1) (Memref.whole cc0_scratch2) g >>= fun v =>
          Prog.lift (.call (1 : (Λ₀ F).Label) (passed g (Scalar.addi i 1#32) (liveOf v)))
        else pure (i, b) := by
  unfold defs₀; rw [Defs.onTc_tc]
  exact while_eq _ _ _ _ _ _ _ _ _ _ _ _ _ _

/-- What the body is called with. -/
def given (c : Dev nD) (t : Fin (cfg0 (F := F)).N) : sProp 𝕄 :=
  iprop(Pipeline.ΦA spec0 c ∗ (data m 0 c).owesAt () t.castSucc
    ∗ val c (st0_0 t) (block m c 0 t) ∗ val c (st0_1 t) (block m c 1 t) ∗ val c (st0_2 t) (block m c 2 t)
    ∗ val c (st0_3 t) (block m c 3 t) ∗ val c (st0_4 t) (block m c 4 t) ∗ (∃ V, val c (st0_5 t) V))

/-- What it gives back. -/
def returned (c : Dev nD) (t : Fin (cfg0 (F := F)).N) : sProp 𝕄 :=
  iprop(Pipeline.ΦA spec0 c ∗ (data m 0 c).owesAt () t.castSucc
    ∗ val c (st0_0 t) (block m c 0 t) ∗ val c (st0_1 t) (block m c 1 t) ∗ val c (st0_2 t) (block m c 2 t)
    ∗ val c (st0_3 t) (block m c 3 t) ∗ val c (st0_4 t) (block m c 4 t) ∗ val c (st0_5 t) (outcome m c t))

/-- What the kernel keeps for itself: its three scratch buffers at something, and the generator's register. -/
theorem kept_eq (c : Dev nD) :
    (Pipeline.ΦA spec0 c : sProp 𝕄)
      = iprop(((∃ V, val c (Memref.whole cc0_scratch0) V) ∗ scr c (Memref.whole cc0_scratch1) ∗ scr c (Memref.whole cc0_scratch2))
          ∗ (∃ r, prngReg c r)) := by
  have e : (iprop(∃ V, val c (Memref.whole cc0_scratch0 : Memref sig .tc .vmem A80 .f32) V) : sProp 𝕄)
      = iprop(∃ f : Buf (Elt F) ((c : Thread nD τ).loc cc0_scratch0), ((c : Thread nD τ).loc cc0_scratch0) ↦{fullShare} f) := by
    simp only [← owns_val c _ (Memref.isWhole_whole cc0_scratch0)]
    simp only [owns_whole]; rfl
  rw [e]
  unfold Pipeline.ΦA; rw [scopedRest0_eq]; unfold scr; rfl

set_option maxHeartbeats 1600000 in
/-- The body at any point, from what it is called with to what it gives back. -/
theorem body_sound (c : Dev nD) (t : Fin (cfg0 (F := F)).N) :
    given m c t ⊢ wp frame (wpE (defs₀ (F := F)) Variants.nat c none) Set.univ (bodyAt0 t) (fun _ => returned m c t) := by
  unfold given returned bodyAt0 outcome
  rw [kept_eq]
  rw [kernel_eq]
  iintro ⟨⟨⟨HS0, HS1, HS2⟩, Hg⟩, Ho, H0, H1, H2, H3, H4, ⟨%d5, H5⟩⟩
  iapply (wp_kernel c Set.univ (st0_0 t) (st0_1 t) (st0_2 t) (st0_3 t) (st0_4 t) (st0_5 t)
    (Memref.whole cc0_scratch0) (Memref.whole cc0_scratch1) (Memref.whole cc0_scratch2)
    (1 : (Λ₀ F).Label) passed (fun i b => (i, b)) row_loop
    (block m c 0 t) (block m c 1 t) (block m c 2 t) (block m c 3 t) (block m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro H0 H1 H2 H3 H4 H5 HS0 HS1 HS2
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The kernel's row of the table of functions. -/
theorem row_kernel (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- What the pipeline hands the body gives what the body is called with. -/
theorem enter (c : Dev nD) (t : Fin (cfg0 (F := F)).N) :
    (iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))) : sProp 𝕄) ⊢ given m c t := by
  unfold given
  refine BIClass.sep_mono .rfl (BIClass.sep_mono .rfl (BIClass.sep_mono (exists_elim fun d => ?_) (BIClass.sep_mono (exists_elim fun d => ?_)
    (BIClass.sep_mono (exists_elim fun d => ?_) (BIClass.sep_mono (exists_elim fun d => ?_) (BIClass.sep_mono (exists_elim fun d => ?_)
    (exists_elim fun d => ?_)))))))
  · rw [found0]; exact to_val c (st0_0 t) (hstage0_0 0) (block m c 0 t)
  · rw [found1]; exact to_val c (st0_1 t) (hstage0_1 0) (block m c 1 t)
  · rw [found2]; exact to_val c (st0_2 t) (hstage0_2 0) (block m c 2 t)
  · rw [found3]; exact to_val c (st0_3 t) (hstage0_3 0) (block m c 3 t)
  · rw [found4]; exact to_val c (st0_4 t) (hstage0_4 0) (block m c 4 t)
  · exact (to_val c (st0_5 t) (hstage0_5 0) _).trans (exists_intro _)

/-- And what the body gives back is what the pipeline takes. -/
theorem leave (c : Dev nD) (t : Fin (cfg0 (F := F)).N) :
    returned m c t ⊢ (iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)) : sProp 𝕄) := by
  rw [show (data m 0 c).Φ t.succ = Pipeline.ΦA spec0 c from rfl,
    show (data m 0 c).owesAt () t.succ = (data m 0 c).owesAt () t.castSucc from rfl,
    left0, left1, left2, left3, left4, left5]
  unfold returned
  exact BIClass.sep_mono .rfl (BIClass.sep_mono .rfl (BIClass.sep_mono (of_val c (st0_0 t) (hstage0_0 0) (block m c 0 t))
    (BIClass.sep_mono (of_val c (st0_1 t) (hstage0_1 0) (block m c 1 t)) (BIClass.sep_mono (of_val c (st0_2 t) (hstage0_2 0) (block m c 2 t))
    (BIClass.sep_mono (of_val c (st0_3 t) (hstage0_3 0) (block m c 3 t)) (BIClass.sep_mono (of_val c (st0_4 t) (hstage0_4 0) (block m c 4 t))
    (of_val c (st0_5 t) (hstage0_5 0) (outcome m c t))))))))

/-- The body does what the launch asks of it at every grid step. -/
theorem obligation (c : Dev nD) : BodyObligation (data (F := F) m 0 c) (defs₀ (F := F)) Variants.nat () Set.univ := fun t => by
  rw [bigSep_W0, bigSep_W0, row_kernel]
  exact triple_restated (body_sound m c t) rfl (enter m c t) fun _ => leave m c t

/-! ### The run -/

set_option backward.isDefEq.respectTransparency.types false in
set_option maxHeartbeats 800000 in
/-- Every execution ends with the kernel's arrays at what its data says, every other buffer as the later operations leave
    it, and every counter at zero. -/
theorem run_all : θ_run defs (onTc (τ := τ) (main (F := F))) (s₀ m ρ)
    (fun r => (Pipeline.FramePost (cfgs (F := F)) (data m) 0 (Pipeline.afterTail₀ (cfgs (F := F)) (data m) 0 (atStart m) [hostOps1])) r ∧ r.2.sem = fun _ => 0) :=
  Pipeline.θ_run_frame_around (Q' := _) (cfgs (F := F)) (data m) (0 : Fin 1) launch0 defs₀ Variants.nat m ρ main
    (hbody := fun c => (obligation m c).loose) (hshare := fun c => (data m 0 c).share_full fun _ => rfl)
    (howed := fun _ _ => rfl) (V₀ := atStart m) (opss := [hostOps1]) (hsub := later_sub) (hfresh := later_all later_fresh)
    (hkeep := later_keeps) (hmain := shape m Variants.nat) (hA := data_A m) (hΦ := fun _ _ => rfl)

/-- Every execution ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by exact (by decide : ∀ w, Pipeline.arrRef spec0 w ≠ main_arg0)))).trans (ended_arg0 m (data m) c),
      ((h.1 c).2 main_arg1 (Pipeline.mem_restRefs_of main_arg1 (by decide) (by exact (by decide : ∀ w, Pipeline.arrRef spec0 w ≠ main_arg1)))).trans (ended_arg1 m (data m) c)⟩, h.2⟩)
    (run_all m ρ)

end Cert.KernelIdeal.Run
-- ==== Proof.Nms.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Claim
public import Idealize.ShloMosaic.Lib.Quiescent

/-! The reference program as lists of operations: those before its loop, those of one trip, and those after the loop
    (with the facts that each touches only tensor-core buffers, allocates nothing, and which buffers it writes). -/

@[expose] public section

set_option maxRecDepth 4000

noncomputable section

namespace Cert.ReferenceIdeal.Run

open Idealize.ShloMosaic Idealize.ShloMosaic.TcCoe Idealize.ShloMosaic.StableHlo
open Idealize.ShloMosaic.Pipeline (ucRefs sub_ucRefs)
open Idealize.SL Idealize.SL.RA Idealize.SL.BI
open scoped Idealize.SL.BI
open Idealize.SL.BI.BIBase Idealize.SL.Sem
open Cert.ReferenceIdeal.Gen

variable {F : FTy → Type} [FloatOps F]

/-- The step number goes up and the masking constant is set. -/
abbrev prepare : List (HloOp τ sig (Elt F)) :=
  [ StableHlo.nullary main_while0b_c_8 (constantI S_ 32 1#32),
    StableHlo.binary main_v5_2 main_while0b_c_8 main_while0b_v12 (addi : (⟨S_, .i32⟩ : BufTy).Contents (Elt F) → (⟨S_, .i32⟩ : BufTy).Contents (Elt F) → (⟨S_, .i32⟩ : BufTy).Contents (Elt F)),
    StableHlo.nullary main_while0b_cst_9 (constant S_ .f32 0xFF800000#32) ]

/-- The operations that start a step use the program's own buffers. -/
theorem prepare_sub : (prepare : List (HloOp τ sig (Elt F))).Forall fun op => op.bufs ⊆ StableHlo.tcRefs τ sig :=
  ⟨StableHlo.nullary_bufs_sub .., StableHlo.binary_bufs_sub .., StableHlo.nullary_bufs_sub ..⟩

/-- The operations that start a step allocate nothing. -/
theorem prepare_fresh : (prepare : List (HloOp τ sig (Elt F))).Forall fun op => op.fresh = ∅ :=
  StableHlo.forall_fresh_of_map rfl

/-- What `prepare` writes. -/
abbrev prepare_W : List (Ref sig .tc) := [main_while0b_c_8, main_while0b_v12, main_while0b_cst_9]

/-- The operations that start a step write only the listed buffers. -/
theorem prepare_writes : (prepare : List (HloOp τ sig (Elt F))).Forall fun op => op.writes ⊆ (prepare_W.map (Proc.devRef (τ := τ) .tc)).toFinset :=
  StableHlo.forall_writes_sub_of_map rfl

/-- Suppressed scores are masked. -/
abbrev mask : List (HloOp τ sig (Elt F)) :=
  [ StableHlo.TRef.unary (.of main_while0b_cst_9 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S10000, .f32⟩) (broadcastInDim S10000 ![] bcast_S_S10000),
    StableHlo.TRef.ternary (.of main_v5_4 : StableHlo.TRef sig ⟨S10000, .i1⟩) (.of main_while0b_call0_v1 : StableHlo.TRef sig ⟨S10000, .f32⟩) (.of main_v5_3 : StableHlo.TRef sig ⟨S10000, .f32⟩) (.of main_while0b_v13 : StableHlo.TRef sig ⟨S10000, .f32⟩) select ]

/-- The operations that mask the chosen boxes use the program's own buffers. -/
theorem mask_sub : (mask : List (HloOp τ sig (Elt F))).Forall fun op => op.bufs ⊆ StableHlo.tcRefs τ sig :=
  ⟨StableHlo.unary_bufs_sub .., StableHlo.unary_bufs_sub .., StableHlo.ternary_bufs_sub ..⟩

/-- The operations that mask the chosen boxes allocate nothing. -/
theorem mask_fresh : (mask : List (HloOp τ sig (Elt F))).Forall fun op => op.fresh = ∅ :=
  StableHlo.forall_fresh_of_map rfl

/-- What `mask` writes. -/
abbrev mask_W : List (Ref sig .tc) := [main_while0b_call0_v0, main_while0b_call0_v1, main_while0b_v13]

/-- The operations that mask the chosen boxes write only the listed buffers. -/
theorem mask_writes : (mask : List (HloOp τ sig (Elt F))).Forall fun op => op.writes ⊆ (mask_W.map (Proc.devRef (τ := τ) .tc)).toFinset :=
  StableHlo.forall_writes_sub_of_map rfl

/-- The largest masked score and its place are found. -/
abbrev search : List (HloOp τ sig (Elt F)) :=
  [ StableHlo.TRef.nullary (.of main_while0b_call1_v0 : StableHlo.TRef sig ⟨S10000, .i32⟩) (iotaInDim S10000 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v13 : StableHlo.TRef sig ⟨S10000, .f32⟩) (.of main_while0b_call1_v0 : StableHlo.TRef sig ⟨S10000, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S10000_S_d0 h_S_ j).1),
    StableHlo.TRef.quaternary (.of main_while0b_v13 : StableHlo.TRef sig ⟨S10000, .f32⟩) (.of main_while0b_call1_v0 : StableHlo.TRef sig ⟨S10000, .i32⟩) (.of main_while0b_call1_cst : StableHlo.TRef sig ⟨S_, .f32⟩) (.of main_while0b_call1_c : StableHlo.TRef sig ⟨S_, .i32⟩) (.of main_while0b_v14 : StableHlo.TRef sig ⟨S_, .i32⟩) (fun x y u v j => (Host.argReduce reducer_argmax_f32_i32 x y u v reducesTo_S10000_S_d0 h_S_ j).2) ]

/-- The operations that search the largest score use the program's own buffers. -/
theorem search_sub : (search : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The operations that search the largest score allocate nothing. -/
theorem search_fresh : (search : List (HloOp τ sig (Elt F))).Forall fun op => op.fresh = ∅ :=
  StableHlo.forall_fresh_of_map rfl

/-- What `search` writes. -/
abbrev search_W : List (Ref sig .tc) := [main_while0b_call1_v0, main_while0b_call1_cst, main_while0b_call1_c, main_while0b_call1_v1_0, main_while0b_v14]

/-- The operations that search the largest score write only the listed buffers. -/
theorem search_writes : (search : List (HloOp τ sig (Elt F))).Forall fun op => op.writes ⊆ (search_W.map (Proc.devRef (τ := τ) .tc)).toFinset :=
  StableHlo.forall_writes_sub_of_map rfl

/-- The chosen row is read and every row's decay is measured. -/
abbrev measure : List (HloOp τ sig (Elt F)) :=
  [ StableHlo.nullary main_while0b_c_10 (constantI S_ 32 0#32),
    StableHlo.binary main_while0b_v14 main_while0b_c_10 main_while0b_v15 (cmpi .slt : (⟨S_, .i32⟩ : BufTy).Contents (Elt F) → (⟨S_, .i32⟩ : BufTy).Contents (Elt F) → (⟨S_, .i1⟩ : BufTy).Contents (Elt F)),
    StableHlo.nullary main_while0b_c_11 (constantI S_ 32 10000#32),
    StableHlo.binary main_while0b_v14 main_while0b_c_11 main_while0b_v16 (addi : (⟨S_, .i32⟩ : BufTy).Contents (Elt F) → (⟨S_, .i32⟩ : BufTy).Contents (Elt F) → (⟨S_, .i32⟩ : BufTy).Contents (Elt F)),
    StableHlo.ternary main_while0b_v15 main_while0b_v16 main_while0b_v14 main_while0b_v17 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_12 (constantI S_ 32 0#32),
    StableHlo.nullary main_while0b_c_13 (constantI S_ 32 0#32),
    StableHlo.binary main_while0b_c_12 main_while0b_c_13 main_while0b_v18 (cmpi .slt : (⟨S_, .i32⟩ : BufTy).Contents (Elt F) → (⟨S_, .i32⟩ : BufTy).Contents (Elt F) → (⟨S_, .i1⟩ : BufTy).Contents (Elt F)),
    StableHlo.nullary main_while0b_c_14 (constantI S_ 32 0#32),
    StableHlo.nullary main_while0b_c_15 (constantI S_ 32 4#32),
    StableHlo.binary main_while0b_c_14 main_while0b_c_15 main_while0b_v19 (addi : (⟨S_, .i32⟩ : BufTy).Contents (Elt F) → (⟨S_, .i32⟩ : BufTy).Contents (Elt F) → (⟨S_, .i32⟩ : BufTy).Contents (Elt F)),
    StableHlo.nullary main_while0b_c_16 (constantI S_ 32 0#32),
    StableHlo.ternary main_while0b_v18 main_while0b_v19 main_while0b_c_16 main_while0b_v20 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v5_0 ![main_while0b_v17, main_while0b_v20] ⟨S_, .i32⟩ main_while0b_v21 ((fun x i => Host.dynamicSlice S1x4 x (fun k => (i k (Shape.Idx.first h_S_)).toInt) sliceFits_S10000x4_S1x4) : (⟨S10000x4, .f32⟩ : BufTy).Contents (Elt F) → (Fin 2 → (⟨S_, .i32⟩ : BufTy).Contents (Elt F)) → (⟨S1x4, .f32⟩ : BufTy).Contents (Elt F)),
    StableHlo.reshape main_while0b_v21 main_while0b_v22 (rfl : (.f32 : EltTy) = .f32) shapeCasts_S1x4_S4,
    StableHlo.unary main_while0b_v22 main_while0b_v23 ((extractStridedSlice S1 ![0] · slices_S4_S1_0) : (⟨S4, .f32⟩ : BufTy).Contents (Elt F) → (⟨S1, .f32⟩ : BufTy).Contents (Elt F)),
    StableHlo.reshape main_while0b_v23 main_while0b_v24 (rfl : (.f32 : EltTy) = .f32) shapeCasts_S1_S_,
    StableHlo.unary main_v5_0 main_while0b_v25 ((extractStridedSlice S10000x1 ![0, 0] · slices_S10000x4_S10000x1_0_0) : (⟨S10000x4, .f32⟩ : BufTy).Contents (Elt F) → (⟨S10000x1, .f32⟩ : BufTy).Contents (Elt F)),
    StableHlo.reshape main_while0b_v25 main_while0b_v26 (rfl : (.f32 : EltTy) = .f32) shapeCasts_S10000x1_S10000,
    StableHlo.unary main_while0b_v24 main_while0b_v27 (broadcastInDim S10000 ![] bcast_S_S10000 : (⟨S_, .f32⟩ : BufTy).Contents (Elt F) → (⟨S10000, .f32⟩ : BufTy).Contents (Elt F)),
    StableHlo.binary main_while0b_v27 main_while0b_v26 main_while0b_v28 (maximumf : (⟨S10000, .f32⟩ : BufTy).Contents (Elt F) → (⟨S10000, .f32⟩ : BufTy).Contents (Elt F) → (⟨S10000, .f32⟩ : BufTy).Contents (Elt F)),
    StableHlo.unary main_while0b_v22 main_while0b_v29 ((extractStridedSlice S1 ![1] · slices_S4_S1_1) : (⟨S4, .f32⟩ : BufTy).Contents (Elt F) → (⟨S1, .f32⟩ : BufTy).Contents (Elt F)),
    StableHlo.reshape main_while0b_v29 main_while0b_v30 (rfl : (.f32 : EltTy) = .f32) shapeCasts_S1_S_,
    StableHlo.unary main_v5_0 main_while0b_v31 ((extractStridedSlice S10000x1 ![0, 1] · slices_S10000x4_S10000x1_0_1) : (⟨S10000x4, .f32⟩ : BufTy).Contents (Elt F) → (⟨S10000x1, .f32⟩ : BufTy).Contents (Elt F)),
    StableHlo.reshape main_while0b_v31 main_while0b_v32 (rfl : (.f32 : EltTy) = .f32) shapeCasts_S10000x1_S10000,
    StableHlo.unary main_while0b_v30 main_while0b_v33 (broadcastInDim S10000 ![] bcast_S_S10000 : (⟨S_, .f32⟩ : BufTy).Contents (Elt F) → (⟨S10000, .f32⟩ : BufTy).Contents (Elt F)),
    StableHlo.binary main_while0b_v33 main_while0b_v32 main_while0b_v34 (maximumf : (⟨S10000, .f32⟩ : BufTy).Contents (Elt F) → (⟨S10000, .f32⟩ : BufTy).Contents (Elt F) → (⟨S10000, .f32⟩ : BufTy).Contents (Elt F)),
    StableHlo.unary main_while0b_v22 main_while0b_v35 ((extractStridedSlice S1 ![2] · slices_S4_S1_2) : (⟨S4, .f32⟩ : BufTy).Contents (Elt F) → (⟨S1, .f32⟩ : BufTy).Contents (Elt F)),
    StableHlo.reshape main_while0b_v35 main_while0b_v36 (rfl : (.f32 : EltTy) = .f32) shapeCasts_S1_S_,
    StableHlo.unary main_v5_0 main_while0b_v37 ((extractStridedSlice S10000x1 ![0, 2] · slices_S10000x4_S10000x1_0_2) : (⟨S10000x4, .f32⟩ : BufTy).Contents (Elt F) → (⟨S10000x1, .f32⟩ : BufTy).Contents (Elt F)),
    StableHlo.reshape main_while0b_v37 main_while0b_v38 (rfl : (.f32 : EltTy) = .f32) shapeCasts_S10000x1_S10000,
    StableHlo.unary main_while0b_v36 main_while0b_v39 (broadcastInDim S10000 ![] bcast_S_S10000 : (⟨S_, .f32⟩ : BufTy).Contents (Elt F) → (⟨S10000, .f32⟩ : BufTy).Contents (Elt F)),
    StableHlo.binary main_while0b_v39 main_while0b_v38 main_while0b_v40 (minimumf : (⟨S10000, .f32⟩ : BufTy).Contents (Elt F) → (⟨S10000, .f32⟩ : BufTy).Contents (Elt F) → (⟨S10000, .f32⟩ : BufTy).Contents (Elt F)),
    StableHlo.unary main_while0b_v22 main_while0b_v41 ((extractStridedSlice S1 ![3] · slices_S4_S1_3) : (⟨S4, .f32⟩ : BufTy).Contents (Elt F) → (⟨S1, .f32⟩ : BufTy).Contents (Elt F)),
    StableHlo.reshape main_while0b_v41 main_while0b_v42 (rfl : (.f32 : EltTy) = .f32) shapeCasts_S1_S_,
    StableHlo.unary main_v5_0 main_while0b_v43 ((extractStridedSlice S10000x1 ![0, 3] · slices_S10000x4_S10000x1_0_3) : (⟨S10000x4, .f32⟩ : BufTy).Contents (Elt F) → (⟨S10000x1, .f32⟩ : BufTy).Contents (Elt F)),
    StableHlo.reshape main_while0b_v43 main_while0b_v44 (rfl : (.f32 : EltTy) = .f32) shapeCasts_S10000x1_S10000,
    StableHlo.unary main_while0b_v42 main_while0b_v45 (broadcastInDim S10000 ![] bcast_S_S10000 : (⟨S_, .f32⟩ : BufTy).Contents (Elt F) → (⟨S10000, .f32⟩ : BufTy).Contents (Elt F)),
    StableHlo.binary main_while0b_v45 main_while0b_v44 main_while0b_v46 (minimumf : (⟨S10000, .f32⟩ : BufTy).Contents (Elt F) → (⟨S10000, .f32⟩ : BufTy).Contents (Elt F) → (⟨S10000, .f32⟩ : BufTy).Contents (Elt F)),
    StableHlo.binary main_while0b_v40 main_while0b_v28 main_while0b_v47 (subf : (⟨S10000, .f32⟩ : BufTy).Contents (Elt F) → (⟨S10000, .f32⟩ : BufTy).Contents (Elt F) → (⟨S10000, .f32⟩ : BufTy).Contents (Elt F)),
    StableHlo.nullary main_while0b_cst_17 (constant S_ .f32 0x00000000#32),
    StableHlo.unary main_while0b_cst_17 main_while0b_v48 (broadcastInDim S10000 ![] bcast_S_S10000 : (⟨S_, .f32⟩ : BufTy).Contents (Elt F) → (⟨S10000, .f32⟩ : BufTy).Contents (Elt F)),
    StableHlo.binary main_while0b_v47 main_while0b_v48 main_while0b_v49 (maximumf : (⟨S10000, .f32⟩ : BufTy).Contents (Elt F) → (⟨S10000, .f32⟩ : BufTy).Contents (Elt F) → (⟨S10000, .f32⟩ : BufTy).Contents (Elt F)),
    StableHlo.binary main_while0b_v46 main_while0b_v34 main_while0b_v50 (subf : (⟨S10000, .f32⟩ : BufTy).Contents (Elt F) → (⟨S10000, .f32⟩ : BufTy).Contents (Elt F) → (⟨S10000, .f32⟩ : BufTy).Contents (Elt F)),
    StableHlo.nullary main_while0b_cst_18 (constant S_ .f32 0x00000000#32),
    StableHlo.unary main_while0b_cst_18 main_while0b_v51 (broadcastInDim S10000 ![] bcast_S_S10000 : (⟨S_, .f32⟩ : BufTy).Contents (Elt F) → (⟨S10000, .f32⟩ : BufTy).Contents (Elt F)),
    StableHlo.binary main_while0b_v50 main_while0b_v51 main_while0b_v52 (maximumf : (⟨S10000, .f32⟩ : BufTy).Contents (Elt F) → (⟨S10000, .f32⟩ : BufTy).Contents (Elt F) → (⟨S10000, .f32⟩ : BufTy).Contents (Elt F)),
    StableHlo.binary main_while0b_v49 main_while0b_v52 main_while0b_v53 (mulf : (⟨S10000, .f32⟩ : BufTy).Contents (Elt F) → (⟨S10000, .f32⟩ : BufTy).Contents (Elt F) → (⟨S10000, .f32⟩ : BufTy).Contents (Elt F)),
    StableHlo.unary main_while0b_v22 main_while0b_v54 ((extractStridedSlice S1 ![2] · slices_S4_S1_2) : (⟨S4, .f32⟩ : BufTy).Contents (Elt F) → (⟨S1, .f32⟩ : BufTy).Contents (Elt F)),
    StableHlo.reshape main_while0b_v54 main_while0b_v55 (rfl : (.f32 : EltTy) = .f32) shapeCasts_S1_S_,
    StableHlo.unary main_while0b_v22 main_while0b_v56 ((extractStridedSlice S1 ![0] · slices_S4_S1_0) : (⟨S4, .f32⟩ : BufTy).Contents (Elt F) → (⟨S1, .f32⟩ : BufTy).Contents (Elt F)),
    StableHlo.reshape main_while0b_v56 main_while0b_v57 (rfl : (.f32 : EltTy) = .f32) shapeCasts_S1_S_,
    StableHlo.binary main_while0b_v55 main_while0b_v57 main_while0b_v58 (subf : (⟨S_, .f32⟩ : BufTy).Contents (Elt F) → (⟨S_, .f32⟩ : BufTy).Contents (Elt F) → (⟨S_, .f32⟩ : BufTy).Contents (Elt F)),
    StableHlo.unary main_while0b_v22 main_while0b_v59 ((extractStridedSlice S1 ![3] · slices_S4_S1_3) : (⟨S4, .f32⟩ : BufTy).Contents (Elt F) → (⟨S1, .f32⟩ : BufTy).Contents (Elt F)),
    StableHlo.reshape main_while0b_v59 main_while0b_v60 (rfl : (.f32 : EltTy) = .f32) shapeCasts_S1_S_,
    StableHlo.unary main_while0b_v22 main_while0b_v61 ((extractStridedSlice S1 ![1] · slices_S4_S1_1) : (⟨S4, .f32⟩ : BufTy).Contents (Elt F) → (⟨S1, .f32⟩ : BufTy).Contents (Elt F)),
    StableHlo.reshape main_while0b_v61 main_while0b_v62 (rfl : (.f32 : EltTy) = .f32) shapeCasts_S1_S_,
    StableHlo.binary main_while0b_v60 main_while0b_v62 main_while0b_v63 (subf : (⟨S_, .f32⟩ : BufTy).Contents (Elt F) → (⟨S_, .f32⟩ : BufTy).Contents (Elt F) → (⟨S_, .f32⟩ : BufTy).Contents (Elt F)),
    StableHlo.binary main_while0b_v58 main_while0b_v63 main_while0b_v64 (mulf : (⟨S_, .f32⟩ : BufTy).Contents (Elt F) → (⟨S_, .f32⟩ : BufTy).Contents (Elt F) → (⟨S_, .f32⟩ : BufTy).Contents (Elt F)),
    StableHlo.unary main_v5_0 main_while0b_v65 ((extractStridedSlice S10000x1 ![0, 2] · slices_S10000x4_S10000x1_0_2) : (⟨S10000x4, .f32⟩ : BufTy).Contents (Elt F) → (⟨S10000x1, .f32⟩ : BufTy).Contents (Elt F)),
    StableHlo.reshape main_while0b_v65 main_while0b_v66 (rfl : (.f32 : EltTy) = .f32) shapeCasts_S10000x1_S10000,
    StableHlo.unary main_v5_0 main_while0b_v67 ((extractStridedSlice S10000x1 ![0, 0] · slices_S10000x4_S10000x1_0_0) : (⟨S10000x4, .f32⟩ : BufTy).Contents (Elt F) → (⟨S10000x1, .f32⟩ : BufTy).Contents (Elt F)),
    StableHlo.reshape main_while0b_v67 main_while0b_v68 (rfl : (.f32 : EltTy) = .f32) shapeCasts_S10000x1_S10000,
    StableHlo.binary main_while0b_v66 main_while0b_v68 main_while0b_v69 (subf : (⟨S10000, .f32⟩ : BufTy).Contents (Elt F) → (⟨S10000, .f32⟩ : BufTy).Contents (Elt F) → (⟨S10000, .f32⟩ : BufTy).Contents (Elt F)),
    StableHlo.unary main_v5_0 main_while0b_v70 ((extractStridedSlice S10000x1 ![0, 3] · slices_S10000x4_S10000x1_0_3) : (⟨S10000x4, .f32⟩ : BufTy).Contents (Elt F) → (⟨S10000x1, .f32⟩ : BufTy).Contents (Elt F)),
    StableHlo.reshape main_while0b_v70 main_while0b_v71 (rfl : (.f32 : EltTy) = .f32) shapeCasts_S10000x1_S10000,
    StableHlo.unary main_v5_0 main_while0b_v72 ((extractStridedSlice S10000x1 ![0, 1] · slices_S10000x4_S10000x1_0_1) : (⟨S10000x4, .f32⟩ : BufTy).Contents (Elt F) → (⟨S10000x1, .f32⟩ : BufTy).Contents (Elt F)),
    StableHlo.reshape main_while0b_v72 main_while0b_v73 (rfl : (.f32 : EltTy) = .f32) shapeCasts_S10000x1_S10000,
    StableHlo.binary main_while0b_v71 main_while0b_v73 main_while0b_v74 (subf : (⟨S10000, .f32⟩ : BufTy).Contents (Elt F) → (⟨S10000, .f32⟩ : BufTy).Contents (Elt F) → (⟨S10000, .f32⟩ : BufTy).Contents (Elt F)),
    StableHlo.binary main_while0b_v69 main_while0b_v74 main_while0b_v75 (mulf : (⟨S10000, .f32⟩ : BufTy).Contents (Elt F) → (⟨S10000, .f32⟩ : BufTy).Contents (Elt F) → (⟨S10000, .f32⟩ : BufTy).Contents (Elt F)),
    StableHlo.unary main_while0b_v64 main_while0b_v76 (broadcastInDim S10000 ![] bcast_S_S10000 : (⟨S_, .f32⟩ : BufTy).Contents (Elt F) → (⟨S10000, .f32⟩ : BufTy).Contents (Elt F)),
    StableHlo.binary main_while0b_v76 main_while0b_v75 main_while0b_v77 (addf : (⟨S10000, .f32⟩ : BufTy).Contents (Elt F) → (⟨S10000, .f32⟩ : BufTy).Contents (Elt F) → (⟨S10000, .f32⟩ : BufTy).Contents (Elt F)),
    StableHlo.binary main_while0b_v77 main_while0b_v53 main_while0b_v78 (subf : (⟨S10000, .f32⟩ : BufTy).Contents (Elt F) → (⟨S10000, .f32⟩ : BufTy).Contents (Elt F) → (⟨S10000, .f32⟩ : BufTy).Contents (Elt F)),
    StableHlo.nullary main_while0b_cst_19 (constant S_ .f32 0x3089705F#32),
    StableHlo.unary main_while0b_cst_19 main_while0b_v79 (broadcastInDim S10000 ![] bcast_S_S10000 : (⟨S_, .f32⟩ : BufTy).Contents (Elt F) → (⟨S10000, .f32⟩ : BufTy).Contents (Elt F)),
    StableHlo.binary main_while0b_v78 main_while0b_v79 main_while0b_v80 (addf : (⟨S10000, .f32⟩ : BufTy).Contents (Elt F) → (⟨S10000, .f32⟩ : BufTy).Contents (Elt F) → (⟨S10000, .f32⟩ : BufTy).Contents (Elt F)),
    StableHlo.binary main_while0b_v53 main_while0b_v80 main_while0b_v81 (Host.divf : (⟨S10000, .f32⟩ : BufTy).Contents (Elt F) → (⟨S10000, .f32⟩ : BufTy).Contents (Elt F) → (⟨S10000, .f32⟩ : BufTy).Contents (Elt F)),
    StableHlo.nullary main_while0b_cst_20 (constant S_ .f32 0x40000000#32),
    StableHlo.unary main_while0b_cst_20 main_while0b_v82 (broadcastInDim S10000 ![] bcast_S_S10000 : (⟨S_, .f32⟩ : BufTy).Contents (Elt F) → (⟨S10000, .f32⟩ : BufTy).Contents (Elt F)),
    StableHlo.binary main_while0b_v81 main_while0b_v82 main_while0b_v83 (Host.powf : (⟨S10000, .f32⟩ : BufTy).Contents (Elt F) → (⟨S10000, .f32⟩ : BufTy).Contents (Elt F) → (⟨S10000, .f32⟩ : BufTy).Contents (Elt F)),
    StableHlo.unary main_while0b_v83 main_while0b_v84 (Host.negf : (⟨S10000, .f32⟩ : BufTy).Contents (Elt F) → (⟨S10000, .f32⟩ : BufTy).Contents (Elt F)),
    StableHlo.nullary main_while0b_cst_21 (constant S_ .f32 0x3F000000#32),
    StableHlo.unary main_while0b_cst_21 main_while0b_v85 (broadcastInDim S10000 ![] bcast_S_S10000 : (⟨S_, .f32⟩ : BufTy).Contents (Elt F) → (⟨S10000, .f32⟩ : BufTy).Contents (Elt F)),
    StableHlo.binary main_while0b_v84 main_while0b_v85 main_while0b_v86 (Host.divf : (⟨S10000, .f32⟩ : BufTy).Contents (Elt F) → (⟨S10000, .f32⟩ : BufTy).Contents (Elt F) → (⟨S10000, .f32⟩ : BufTy).Contents (Elt F)),
    StableHlo.unary main_while0b_v86 main_while0b_v87 (Host.exp : (⟨S10000, .f32⟩ : BufTy).Contents (Elt F) → (⟨S10000, .f32⟩ : BufTy).Contents (Elt F)),
    StableHlo.nullary main_while0b_cst_22 (constant S_ .f32 0x3F800000#32) ]

/-- The operations that compute the overlaps and decays use the program's own buffers. -/
theorem measure_sub : (measure : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub ..⟩

/-- The operations that compute the overlaps and decays allocate nothing. -/
theorem measure_fresh : (measure : List (HloOp τ sig (Elt F))).Forall fun op => op.fresh = ∅ :=
  StableHlo.forall_fresh_of_map rfl

/-- What `measure` writes. -/
abbrev measure_W : List (Ref sig .tc) := [main_while0b_c_10, main_while0b_v15, main_while0b_c_11, main_while0b_v16, main_while0b_v17, main_while0b_c_12, main_while0b_c_13, main_while0b_v18, main_while0b_c_14, main_while0b_c_15, main_while0b_v19, main_while0b_c_16, main_while0b_v20, main_while0b_v21, main_while0b_v22, main_while0b_v23, main_while0b_v24, main_while0b_v25, main_while0b_v26, main_while0b_v27, main_while0b_v28, main_while0b_v29, main_while0b_v30, main_while0b_v31, main_while0b_v32, main_while0b_v33, main_while0b_v34, main_while0b_v35, main_while0b_v36, main_while0b_v37, main_while0b_v38, main_while0b_v39, main_while0b_v40, main_while0b_v41, main_while0b_v42, main_while0b_v43, main_while0b_v44, main_while0b_v45, main_while0b_v46, main_while0b_v47, main_while0b_cst_17, main_while0b_v48, main_while0b_v49, main_while0b_v50, main_while0b_cst_18, main_while0b_v51, main_while0b_v52, main_while0b_v53, main_while0b_v54, main_while0b_v55, main_while0b_v56, main_while0b_v57, main_while0b_v58, main_while0b_v59, main_while0b_v60, main_while0b_v61, main_while0b_v62, main_while0b_v63, main_while0b_v64, main_while0b_v65, main_while0b_v66, main_while0b_v67, main_while0b_v68, main_while0b_v69, main_while0b_v70, main_while0b_v71, main_while0b_v72, main_while0b_v73, main_while0b_v74, main_while0b_v75, main_while0b_v76, main_while0b_v77, main_while0b_v78, main_while0b_cst_19, main_while0b_v79, main_while0b_v80, main_while0b_v81, main_while0b_cst_20, main_while0b_v82, main_while0b_v83, main_while0b_v84, main_while0b_cst_21, main_while0b_v85, main_while0b_v86, main_while0b_v87, main_while0b_cst_22]

/-- The operations that compute the overlaps and decays write only the listed buffers. -/
theorem measure_writes : (measure : List (HloOp τ sig (Elt F))).Forall fun op => op.writes ⊆ (measure_W.map (Proc.devRef (τ := τ) .tc)).toFinset :=
  StableHlo.forall_writes_sub_of_map rfl

/-- Suppressed rows keep the factor one. -/
abbrev unmask : List (HloOp τ sig (Elt F)) :=
  [ StableHlo.TRef.unary (.of main_while0b_cst_22 : StableHlo.TRef sig ⟨S_, .f32⟩) (.of main_while0b_call2_v0 : StableHlo.TRef sig ⟨S_, .f32⟩) id,
    StableHlo.TRef.unary (.of main_while0b_call2_v0 : StableHlo.TRef sig ⟨S_, .f32⟩) (.of main_while0b_call2_v1 : StableHlo.TRef sig ⟨S10000, .f32⟩) (broadcastInDim S10000 ![] bcast_S_S10000),
    StableHlo.TRef.ternary (.of main_v5_4 : StableHlo.TRef sig ⟨S10000, .i1⟩) (.of main_while0b_call2_v1 : StableHlo.TRef sig ⟨S10000, .f32⟩) (.of main_while0b_v87 : StableHlo.TRef sig ⟨S10000, .f32⟩) (.of main_while0b_v88 : StableHlo.TRef sig ⟨S10000, .f32⟩) select ]

/-- The operations that spare the chosen boxes use the program's own buffers. -/
theorem unmask_sub : (unmask : List (HloOp τ sig (Elt F))).Forall fun op => op.bufs ⊆ StableHlo.tcRefs τ sig :=
  ⟨StableHlo.unary_bufs_sub .., StableHlo.unary_bufs_sub .., StableHlo.ternary_bufs_sub ..⟩

/-- The operations that spare the chosen boxes allocate nothing. -/
theorem unmask_fresh : (unmask : List (HloOp τ sig (Elt F))).Forall fun op => op.fresh = ∅ :=
  StableHlo.forall_fresh_of_map rfl

/-- What `unmask` writes. -/
abbrev unmask_W : List (Ref sig .tc) := [main_while0b_call2_v0, main_while0b_call2_v1, main_while0b_v88]

/-- The operations that spare the chosen boxes write only the listed buffers. -/
theorem unmask_writes : (unmask : List (HloOp τ sig (Elt F))).Forall fun op => op.writes ⊆ (unmask_W.map (Proc.devRef (τ := τ) .tc)).toFinset :=
  StableHlo.forall_writes_sub_of_map rfl

/-- The chosen row gets the factor one, the scores are multiplied and the chosen row is marked. -/
abbrev record : List (HloOp τ sig (Elt F)) :=
  [ StableHlo.nullary main_while0b_c_23 (constantI S_ 32 0#32),
    StableHlo.binary main_while0b_v14 main_while0b_c_23 main_while0b_v89 (cmpi .slt : (⟨S_, .i32⟩ : BufTy).Contents (Elt F) → (⟨S_, .i32⟩ : BufTy).Contents (Elt F) → (⟨S_, .i1⟩ : BufTy).Contents (Elt F)),
    StableHlo.nullary main_while0b_c_24 (constantI S_ 32 10000#32),
    StableHlo.binary main_while0b_v14 main_while0b_c_24 main_while0b_v90 (addi : (⟨S_, .i32⟩ : BufTy).Contents (Elt F) → (⟨S_, .i32⟩ : BufTy).Contents (Elt F) → (⟨S_, .i32⟩ : BufTy).Contents (Elt F)),
    StableHlo.ternary main_while0b_v89 main_while0b_v90 main_while0b_v14 main_while0b_v91 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v91 main_while0b_v92 (broadcastInDim S1 ![] bcast_S_S1 : (⟨S_, .i32⟩ : BufTy).Contents (Elt F) → (⟨S1, .i32⟩ : BufTy).Contents (Elt F)),
    StableHlo.nullary main_while0b_cst_25 (constant S_ .f32 0x3F800000#32),
    StableHlo.ternary main_while0b_v88 main_while0b_v92 main_while0b_cst_25 main_while0b_v93 ((fun x i u => Host.scatter scatter_S10000_S1_S__n_0_0_0 (fun _ b => b) x i u) : (⟨S10000, .f32⟩ : BufTy).Contents (Elt F) → (⟨S1, .i32⟩ : BufTy).Contents (Elt F) → (⟨S_, .f32⟩ : BufTy).Contents (Elt F) → (⟨S10000, .f32⟩ : BufTy).Contents (Elt F)),
    StableHlo.binary main_v5_3 main_while0b_v93 main_while0b_v94 (mulf : (⟨S10000, .f32⟩ : BufTy).Contents (Elt F) → (⟨S10000, .f32⟩ : BufTy).Contents (Elt F) → (⟨S10000, .f32⟩ : BufTy).Contents (Elt F)),
    StableHlo.nullary main_while0b_c_26 (constantI S_ 32 0#32),
    StableHlo.binary main_while0b_v14 main_while0b_c_26 main_while0b_v95 (cmpi .slt : (⟨S_, .i32⟩ : BufTy).Contents (Elt F) → (⟨S_, .i32⟩ : BufTy).Contents (Elt F) → (⟨S_, .i1⟩ : BufTy).Contents (Elt F)),
    StableHlo.nullary main_while0b_c_27 (constantI S_ 32 10000#32),
    StableHlo.binary main_while0b_v14 main_while0b_c_27 main_while0b_v96 (addi : (⟨S_, .i32⟩ : BufTy).Contents (Elt F) → (⟨S_, .i32⟩ : BufTy).Contents (Elt F) → (⟨S_, .i32⟩ : BufTy).Contents (Elt F)),
    StableHlo.ternary main_while0b_v95 main_while0b_v96 main_while0b_v14 main_while0b_v97 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v97 main_while0b_v98 (broadcastInDim S1 ![] bcast_S_S1 : (⟨S_, .i32⟩ : BufTy).Contents (Elt F) → (⟨S1, .i32⟩ : BufTy).Contents (Elt F)),
    StableHlo.nullary main_while0b_c_28 (constantI S_ 1 1#1),
    StableHlo.ternary main_v5_4 main_while0b_v98 main_while0b_c_28 main_while0b_v99 ((fun x i u => Host.scatter scatter_S10000_S1_S__n_0_0_0 (fun _ b => b) x i u) : (⟨S10000, .i1⟩ : BufTy).Contents (Elt F) → (⟨S1, .i32⟩ : BufTy).Contents (Elt F) → (⟨S_, .i1⟩ : BufTy).Contents (Elt F) → (⟨S10000, .i1⟩ : BufTy).Contents (Elt F)),
    StableHlo.nullary main_while0b_c_29 (constantI S_ 32 1#32),
    StableHlo.binary main_v5_1 main_while0b_c_29 main_while0b_v100 (addi : (⟨S_, .i32⟩ : BufTy).Contents (Elt F) → (⟨S_, .i32⟩ : BufTy).Contents (Elt F) → (⟨S_, .i32⟩ : BufTy).Contents (Elt F)),
    StableHlo.unary main_while0b_v100 main_v5_1 id,
    StableHlo.unary main_while0b_v12 main_v5_2 id,
    StableHlo.unary main_while0b_v94 main_v5_3 id,
    StableHlo.unary main_while0b_v99 main_v5_4 id ]

/-- The operations that apply the decay and record the choice use the program's own buffers. -/
theorem record_sub : (record : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub .., StableHlo.nullary_bufs_sub .., StableHlo.binary_bufs_sub .., StableHlo.unary_bufs_sub .., StableHlo.unary_bufs_sub .., StableHlo.unary_bufs_sub .., StableHlo.unary_bufs_sub ..⟩

/-- The operations that apply the decay and record the choice allocate nothing. -/
theorem record_fresh : (record : List (HloOp τ sig (Elt F))).Forall fun op => op.fresh = ∅ :=
  StableHlo.forall_fresh_of_map rfl

/-- What `record` writes. -/
abbrev record_W : List (Ref sig .tc) := [main_while0b_c_23, main_while0b_v89, main_while0b_c_24, main_while0b_v90, main_while0b_v91, main_while0b_v92, main_while0b_cst_25, main_while0b_v93, main_while0b_v94, main_while0b_c_26, main_while0b_v95, main_while0b_c_27, main_while0b_v96, main_while0b_v97, main_while0b_v98, main_while0b_c_28, main_while0b_v99, main_while0b_c_29, main_while0b_v100, main_v5_1, main_v5_2, main_v5_3, main_v5_4]

/-- The operations that apply the decay and record the choice write only the listed buffers. -/
theorem record_writes : (record : List (HloOp τ sig (Elt F))).Forall fun op => op.writes ⊆ (record_W.map (Proc.devRef (τ := τ) .tc)).toFinset :=
  StableHlo.forall_writes_sub_of_map rfl

/-- The rows are joined, boxes and scores cut out, and the loop variables set. -/
abbrev setUp : List (HloOp τ sig (Elt F)) :=
  [ StableHlo.binary main_arg0 main_arg1 main_v0 ((fun a b => concatenate S10000x14 0 [⟨S5000x14, a⟩, ⟨S5000x14, b⟩] concatenates_S5000x14_S5000x14_S10000x14_d0) : (⟨S5000x14, .f32⟩ : BufTy).Contents (Elt F) → (⟨S5000x14, .f32⟩ : BufTy).Contents (Elt F) → (⟨S10000x14, .f32⟩ : BufTy).Contents (Elt F)),
    StableHlo.unary main_v0 main_v1 ((extractStridedSlice S10000x4 ![0, 2] · slices_S10000x14_S10000x4_0_2) : (⟨S10000x14, .f32⟩ : BufTy).Contents (Elt F) → (⟨S10000x4, .f32⟩ : BufTy).Contents (Elt F)),
    StableHlo.unary main_v0 main_v2 ((extractStridedSlice S10000x1 ![0, 13] · slices_S10000x14_S10000x1_0_13) : (⟨S10000x14, .f32⟩ : BufTy).Contents (Elt F) → (⟨S10000x1, .f32⟩ : BufTy).Contents (Elt F)),
    StableHlo.reshape main_v2 main_v3 (rfl : (.f32 : EltTy) = .f32) shapeCasts_S10000x1_S10000,
    StableHlo.nullary main_c (constantI S_ 1 0#1),
    StableHlo.unary main_c main_v4 (broadcastInDim S10000 ![] bcast_S_S10000 : (⟨S_, .i1⟩ : BufTy).Contents (Elt F) → (⟨S10000, .i1⟩ : BufTy).Contents (Elt F)),
    StableHlo.nullary main_c_0 (constantI S_ 32 0#32),
    StableHlo.nullary main_c_1 (constantI S_ 32 0#32),
    StableHlo.unary main_v1 main_v5_0 id,
    StableHlo.unary main_c_1 main_v5_1 id,
    StableHlo.unary main_c_0 main_v5_2 id,
    StableHlo.unary main_v3 main_v5_3 id,
    StableHlo.unary main_v4 main_v5_4 id ]

/-- The operations before the loop use the program's own buffers. -/
theorem setUp_sub : (setUp : List (HloOp τ sig (Elt F))).Forall fun op => op.bufs ⊆ StableHlo.tcRefs τ sig :=
  ⟨StableHlo.binary_bufs_sub .., StableHlo.unary_bufs_sub .., StableHlo.unary_bufs_sub .., StableHlo.reshape_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub ..⟩

/-- The operations before the loop allocate nothing. -/
theorem setUp_fresh : (setUp : List (HloOp τ sig (Elt F))).Forall fun op => op.fresh = ∅ :=
  StableHlo.forall_fresh_of_map rfl

/-- What `setUp` writes. -/
abbrev setUp_W : List (Ref sig .tc) := [main_v0, main_v1, main_v2, main_v3, main_c, main_v4, main_c_0, main_c_1, main_v5_0, main_v5_1, main_v5_2, main_v5_3, main_v5_4]

/-- The operations before the loop write only the listed buffers. -/
theorem setUp_writes : (setUp : List (HloOp τ sig (Elt F))).Forall fun op => op.writes ⊆ (setUp_W.map (Proc.devRef (τ := τ) .tc)).toFinset :=
  StableHlo.forall_writes_sub_of_map rfl

/-- Scores are compared with the threshold and written back. -/
abbrev threshold : List (HloOp τ sig (Elt F)) :=
  [ StableHlo.nullary main_cst (constant S_ .f32 0x3E4CCCCD#32),
    StableHlo.unary main_cst main_v6 (broadcastInDim S10000 ![] bcast_S_S10000 : (⟨S_, .f32⟩ : BufTy).Contents (Elt F) → (⟨S10000, .f32⟩ : BufTy).Contents (Elt F)),
    StableHlo.binary main_v5_3 main_v6 main_v7 (cmpf .ogt : (⟨S10000, .f32⟩ : BufTy).Contents (Elt F) → (⟨S10000, .f32⟩ : BufTy).Contents (Elt F) → (⟨S10000, .i1⟩ : BufTy).Contents (Elt F)),
    StableHlo.nullary main_c_2 (constantI S_ 32 13#32),
    StableHlo.unary main_c_2 main_v8 (broadcastInDim S1 ![] bcast_S_S1 : (⟨S_, .i32⟩ : BufTy).Contents (Elt F) → (⟨S1, .i32⟩ : BufTy).Contents (Elt F)),
    StableHlo.ternary main_v0 main_v8 main_v5_3 main_v9 ((fun x i u => Host.scatter scatter_S10000x14_S1_S10000_0_1_1_0 (fun _ b => b) x i u) : (⟨S10000x14, .f32⟩ : BufTy).Contents (Elt F) → (⟨S1, .i32⟩ : BufTy).Contents (Elt F) → (⟨S10000, .f32⟩ : BufTy).Contents (Elt F) → (⟨S10000x14, .f32⟩ : BufTy).Contents (Elt F)),
    StableHlo.unary main_v7 main_v10 (broadcastInDim S10000x1 ![0] bcast_S10000_S10000x1_0 : (⟨S10000, .i1⟩ : BufTy).Contents (Elt F) → (⟨S10000x1, .i1⟩ : BufTy).Contents (Elt F)),
    StableHlo.nullary main_cst_3 (constant S_ .f32 0x00000000#32) ]

/-- The operations that compare the last scores use the program's own buffers. -/
theorem threshold_sub : (threshold : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.nullary_bufs_sub ..⟩

/-- The operations that compare the last scores allocate nothing. -/
theorem threshold_fresh : (threshold : List (HloOp τ sig (Elt F))).Forall fun op => op.fresh = ∅ :=
  StableHlo.forall_fresh_of_map rfl

/-- What `threshold` writes. -/
abbrev threshold_W : List (Ref sig .tc) := [main_cst, main_v6, main_v7, main_c_2, main_v8, main_v9, main_v10, main_cst_3]

/-- The operations that compare the last scores write only the listed buffers. -/
theorem threshold_writes : (threshold : List (HloOp τ sig (Elt F))).Forall fun op => op.writes ⊆ (threshold_W.map (Proc.devRef (τ := τ) .tc)).toFinset :=
  StableHlo.forall_writes_sub_of_map rfl

/-- Rows below the threshold are cleared. -/
abbrev blank : List (HloOp τ sig (Elt F)) :=
  [ StableHlo.TRef.unary (.of main_cst_3 : StableHlo.TRef sig ⟨S_, .f32⟩) (.of main_call3_v0 : StableHlo.TRef sig ⟨S_, .f32⟩) id,
    StableHlo.TRef.unary (.of main_v10 : StableHlo.TRef sig ⟨S10000x1, .i1⟩) (.of main_call3_v1 : StableHlo.TRef sig ⟨S10000x14, .i1⟩) (broadcastInDim S10000x14 ![0, 1] bcast_S10000x1_S10000x14_0_1),
    StableHlo.TRef.unary (.of main_call3_v0 : StableHlo.TRef sig ⟨S_, .f32⟩) (.of main_call3_v2 : StableHlo.TRef sig ⟨S10000x14, .f32⟩) (broadcastInDim S10000x14 ![] bcast_S_S10000x14),
    StableHlo.TRef.ternary (.of main_call3_v1 : StableHlo.TRef sig ⟨S10000x14, .i1⟩) (.of main_v9 : StableHlo.TRef sig ⟨S10000x14, .f32⟩) (.of main_call3_v2 : StableHlo.TRef sig ⟨S10000x14, .f32⟩) (.of main_v11 : StableHlo.TRef sig ⟨S10000x14, .f32⟩) select ]

/-- The operations that blank the rows not kept use the program's own buffers. -/
theorem blank_sub : (blank : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

/-- The operations that blank the rows not kept allocate nothing. -/
theorem blank_fresh : (blank : List (HloOp τ sig (Elt F))).Forall fun op => op.fresh = ∅ :=
  StableHlo.forall_fresh_of_map rfl

/-- What `blank` writes. -/
abbrev blank_W : List (Ref sig .tc) := [main_call3_v0, main_call3_v1, main_call3_v2, main_v11]

/-- The operations that blank the rows not kept write only the listed buffers. -/
theorem blank_writes : (blank : List (HloOp τ sig (Elt F))).Forall fun op => op.writes ⊆ (blank_W.map (Proc.devRef (τ := τ) .tc)).toFinset :=
  StableHlo.forall_writes_sub_of_map rfl

/-- Everything one trip of the loop does, stretch by stretch. -/
abbrev tripItems : List (List (HloOp τ sig (Elt F))) := [prepare, mask, search, measure, unmask, record]
/-- Everything before the loop. -/
abbrev beforeItems : List (List (HloOp τ sig (Elt F))) := [setUp]
/-- Everything after the loop. -/
abbrev afterItems : List (List (HloOp τ sig (Elt F))) := [threshold, blank]
/-- The loop's test: is the trip counter below ten thousand? -/
abbrev testOps : List (HloOp τ sig (Elt F)) :=
  [ StableHlo.nullary main_while0c_c_8 (constantI S_ 32 10000#32),
    StableHlo.binary main_v5_1 main_while0c_c_8 main_while0c_v12 (cmpi .slt : (⟨S_, .i32⟩ : BufTy).Contents (Elt F) → (⟨S_, .i32⟩ : BufTy).Contents (Elt F) → (⟨S_, .i1⟩ : BufTy).Contents (Elt F)) ]
/-- What the test writes. -/
abbrev testOps_W : List (Ref sig .tc) := [main_while0c_c_8, main_while0c_v12]
/-- The operations of the loop's test write only the listed buffers. -/
theorem testOps_writes : (testOps : List (HloOp τ sig (Elt F))).Forall fun op => op.writes ⊆ (testOps_W.map (Proc.devRef (τ := τ) .tc)).toFinset :=
  StableHlo.forall_writes_sub_of_map rfl

/-- Before the loop there are plain operations only. -/
theorem before_plain : Plain (beforeItems (F := F)) :=
  .cons setUp_sub (hf := List.forall_iff_forall_mem.mp setUp_fresh) .nil
/-- A step has plain operations only. -/
theorem trip_plain : Plain (tripItems (F := F)) :=
  .cons prepare_sub (hf := List.forall_iff_forall_mem.mp prepare_fresh) <|
  .cons mask_sub (hf := List.forall_iff_forall_mem.mp mask_fresh) <|
  .cons search_sub (hf := List.forall_iff_forall_mem.mp search_fresh) <|
  .cons measure_sub (hf := List.forall_iff_forall_mem.mp measure_fresh) <|
  .cons unmask_sub (hf := List.forall_iff_forall_mem.mp unmask_fresh) <|
  .cons record_sub (hf := List.forall_iff_forall_mem.mp record_fresh) .nil
/-- After the loop there are plain operations only. -/
theorem after_plain : Plain (afterItems (F := F)) :=
  .cons threshold_sub (hf := List.forall_iff_forall_mem.mp threshold_fresh) <|
  .cons blank_sub (hf := List.forall_iff_forall_mem.mp blank_fresh) .nil

/-- The program is its set-up, its loop and its closing operations, in order. -/
theorem main_items (c : Dev nD) : main (F := F) c = (Pipeline.chain
  [ StableHlo.seq setUp, HostLoop.enter 0, StableHlo.seq threshold, StableHlo.seq blank ] :
    Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons]
  chain_rfl

/-- The loop's body is its six stretches, in order. -/
theorem trip_items : main_while0_body (F := F) = (Pipeline.chain
  [ StableHlo.seq prepare, StableHlo.seq mask, StableHlo.seq search, StableHlo.seq measure, StableHlo.seq unmask, StableHlo.seq record ] :
    Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons,
    StableHlo.chain_seq_cons]
  chain_rfl

/-- A buffer that none of the trip's first five stretches writes keeps its contents through them. -/
theorem early_keeps (V : Valuation τ sig (Elt F)) (b : Ref sig .tc)
    (h : ∀ W ∈ [prepare_W, mask_W, search_W, measure_W, unmask_W], b ∉ W) :
    after unmask (after measure (after search (after mask (after prepare V)))) (Proc.devRef .tc b) = V (Proc.devRef .tc b) := by
  rw [after_of_writes_sub _ _ unmask_writes (h _ (.tail _ (.tail _ (.tail _ (.tail _ (.head _)))))), after_of_writes_sub _ _ measure_writes (h _ (.tail _ (.tail _ (.tail _ (.head _))))),
    after_of_writes_sub _ _ search_writes (h _ (.tail _ (.tail _ (.head _)))), after_of_writes_sub _ _ mask_writes (h _ (.tail _ (.head _))),
    after_of_writes_sub _ _ prepare_writes (h _ (.head _))]

/-- A trip raises the trip counter by one. -/
theorem trip_counter (V : Valuation τ sig (Elt F)) :
    afterL tripItems V (Proc.devRef .tc main_v5_1) = addi (V (Proc.devRef .tc main_v5_1)) (constantI S_ 32 1#32) := by
  have h : ∀ X : Valuation τ sig (Elt F), after record X (Proc.devRef .tc main_v5_1)
      = addi (X (Proc.devRef .tc main_v5_1)) (constantI S_ 32 1#32) := by
    intro X; after_reads_simp; rfl
  simp only [afterL_cons, afterL_nil]
  rw [h, early_keeps V main_v5_1 (by decide +kernel)]

end Cert.ReferenceIdeal.Run
-- ==== Proof.Nms.RefRun.lean ====
module

public import proofs.«01_k».proof.Proof.Nms.RefOps
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Claim
public import Idealize.ShloMosaic.Lib.Quiescent

/-! The reference program runs to its end: its host operations set up, its one host loop makes ten thousand trips, and
    the operations after the loop build the result. Every buffer then holds the fold of the operations. -/

@[expose] public section

set_option maxRecDepth 4000

noncomputable section

namespace Cert.ReferenceIdeal.Run

open Idealize.ShloMosaic Idealize.ShloMosaic.TcCoe Idealize.ShloMosaic.StableHlo
open Idealize.ShloMosaic.Pipeline (ucRefs sub_ucRefs)
open Idealize.SL Idealize.SL.RA Idealize.SL.BI
open scoped Idealize.SL.BI
open Idealize.SL.BI.BIBase Idealize.SL.Sem
open Cert.ReferenceIdeal.Gen

variable {F : FTy → Type} [FloatOps F]

variable (m : (ℓ : Loc nD τ sig) → Buf (Elt F) ℓ) (ρ : Dev nD → PrngReg)

/-- The buffers of core `c` when the loop's test runs for the `k`-th time, counted from zero. -/
abbrev atTest (k : ℕ) (c : Dev nD) : Valuation τ sig (Elt F) := atTrip testOps tripItems (entryContents beforeItems m) k c

/-- The counter starts at zero. -/
theorem counter_start (c : Dev nD) : entryContents beforeItems m c (Proc.devRef .tc main_v5_1) = fun _ => (0#32 : BitVec 32) := by
  simp only [entryContents, afterL_cons, afterL_nil]
  after_reads_simp
  rfl

/-- At the `k`-th test the counter is `k`. -/
theorem counter_at (c : Dev nD) : ∀ k, atTest m k c (Proc.devRef .tc main_v5_1) = fun _ => Scf.iv 0#32 1#32 k
  | 0 => by rw [show atTest m 0 c = entryContents beforeItems m c from rfl, counter_start, Scf.iv_zero]
  | k + 1 => by
    rw [show atTest m (k + 1) c = afterL tripItems (after testOps (atTest m k c)) from rfl, trip_counter,
      after_of_writes_sub testOps _ testOps_writes (by decide +kernel), counter_at c k, Scf.iv_succ]
    rfl

set_option backward.isDefEq.respectTransparency.types false in
/-- The test answers yes exactly while the counter is below ten thousand. -/
theorem test_spec : CondSpec (pcfgs (F := F)) defs₀ loops (main_while0_cond (F := F)) testOps tripItems (entryContents beforeItems m) 10000 := by
  intro k hk c bd
  have hctr := counter_at m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTest m k c) main_v5_1 HostLoop.idx0)
        (HloOp.result _ (atTest m k c) main_while0c_c_8 HostLoop.idx0) = 1#1) (k < 10000)
    rw [nullary_result_ne _ _ _ _ (by decide), nullary_result, hctr]
    exact Scf.cmpi_slt_iv_ub_iff (lb := 0#32) (ub := 10000#32) (st := 1#32) (by decide) (show k ≤ Scf.trips 0#32 10000#32 1#32 from hk)
  isplitl [Hb]; · iexact Hb
  rw [after_cons, after_cons, after_nil]; iexact Hh

set_option maxRecDepth 100000 in
/-- The program always ends, with every buffer at the fold of its operations over ten thousand trips. -/
theorem run_all : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents testOps beforeItems tripItems afterItems 10000 m c (Proc.devRef .tc b)) :=
  run_loop (pcfgs (F := F)) defs₀ loops main 0 main_while0_cond main_while0_body rfl beforeItems tripItems afterItems testOps
    before_plain trip_plain after_plain
    main_items trip_items 10000 m ρ (test_spec m)

/-- A buffer no stretch of a trip writes keeps its contents over any number of trips. -/
theorem trips_keep (c : Dev nD) (b : Ref sig .tc)
    (h : ∀ W ∈ [testOps_W, record_W, prepare_W, mask_W, search_W, measure_W, unmask_W], b ∉ W) :
    ∀ k, atTest m k c (Proc.devRef .tc b) = entryContents beforeItems m c (Proc.devRef .tc b)
  | 0 => rfl
  | k + 1 => by
    rw [show atTest m (k + 1) c = afterL tripItems (after testOps (atTest m k c)) from rfl]
    simp only [afterL_cons, afterL_nil]
    rw [after_of_writes_sub _ _ record_writes (h _ (.tail _ (.head _))),
      early_keeps _ b (fun W hW => h W (.tail _ (.tail _ hW))),
      after_of_writes_sub _ _ testOps_writes (h _ (.head _)), trips_keep c b h k]
    rfl

/-- A buffer nothing writes ends as it began. -/
theorem ends_kept (c : Dev nD) (b : Ref sig .tc)
    (h : ∀ W ∈ [testOps_W, record_W, prepare_W, mask_W, search_W, measure_W, unmask_W], b ∉ W)
    (h' : ∀ W ∈ [setUp_W, threshold_W, blank_W], b ∉ W) :
    finalContents testOps beforeItems tripItems afterItems 10000 m c (Proc.devRef .tc b) = m ((c.tc : Thread nD τ).loc b) := by
  rw [show finalContents testOps beforeItems tripItems afterItems 10000 m c
      = after blank (after threshold (after testOps (atTest m 10000 c))) from rfl,
    after_of_writes_sub _ _ blank_writes (h' _ (.tail _ (.tail _ (.head _)))), after_of_writes_sub _ _ threshold_writes (h' _ (.tail _ (.head _))),
    after_of_writes_sub _ _ testOps_writes (h _ (.head _)), trips_keep m c b h,
    show entryContents beforeItems m c = after setUp (launchContents m c) from rfl,
    after_of_writes_sub _ _ setUp_writes (h' _ (.head _))]

/-- The arguments end as they began. -/
theorem ends_arg0 (c : Dev nD) : finalContents testOps beforeItems tripItems afterItems 10000 m c (Proc.devRef .tc main_arg0)
    = m ((c.tc : Thread nD τ).loc main_arg0) := ends_kept m c main_arg0 (by decide +kernel) (by decide +kernel)
/-- The reference leaves its second argument alone. -/
theorem ends_arg1 (c : Dev nD) : finalContents testOps beforeItems tripItems afterItems 10000 m c (Proc.devRef .tc main_arg1)
    = m ((c.tc : Thread nD τ).loc main_arg1) := ends_kept m c main_arg1 (by decide +kernel) (by decide +kernel)

/-- The program ends, leaves its arguments as they were and no semaphore raised. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_mono (run_all m ρ) (fun r h => ⟨fun c => ⟨(h c main_arg0 rfl).trans (ends_arg0 m c), (h c main_arg1 rfl).trans (ends_arg1 m c)⟩,
    sem_eq_zero_of_no_sems (by decide) r.2⟩)

end Cert.ReferenceIdeal.Run
-- ==== Proof.Nms.Sim.lean ====
/-
  Why picking in batches gives what picking one at a time gives, said of plain functions from box numbers to extended
  reals: nothing here knows of the programs.
-/
module

public import Idealize.ShloMosaic.PureOps.Ideal.Laws

@[expose] public section

noncomputable section

namespace Cert.Nms

/-- `w` is the first number below `n` at which `f` is largest. -/
def IsTop (n : ℕ) (f : ℕ → EReal) (w : ℕ) : Prop := w < n ∧ ∀ j < n, f j ≤ f w ∧ (j < w → f j < f w)

/-- There is one first largest number. -/
theorem IsTop.unique {n : ℕ} {f : ℕ → EReal} {w w' : ℕ} (h : IsTop n f w) (h' : IsTop n f w') : w = w' := by
  rcases lt_trichotomy w w' with hl | he | hl
  · exact absurd (h.2 w' h'.1).1 (not_le.mpr ((h'.2 w h.1).2 hl))
  · exact he
  · exact absurd (h'.2 w h.1).1 (not_le.mpr ((h.2 w' h'.1).2 hl))

/-- The numbers that keep a pick from being dropped: how many boxes there are, how many places, and the threshold. -/
structure Sizes where
  N : ℕ
  M : ℕ
  t : EReal
  pos : 0 < t
  room : N + 8 ≤ M

/-- The pairwise decays, with what they are for boxes that do not meet. -/
structure Decay where
  e : ℕ → ℕ → EReal
  meet : ℕ → ℕ → Prop
  nonneg : ∀ p x, 0 ≤ e p x
  le_one : ∀ p x, e p x ≤ 1
  apart : ∀ j i, ¬ meet j i → e j i = 1
  apart' : ∀ j i, ¬ meet j i → e i j = 1

/-- One step of the reference: the first largest score not yet chosen is chosen, the others not yet chosen decay. -/
def Step (z : Sizes) (d : Decay) (s : ℕ → EReal) (S : Finset ℕ) (s' : ℕ → EReal) (S' : Finset ℕ) : Prop :=
  ∃ w, IsTop z.N (fun x => if x ∈ S then ⊥ else s x) w
    ∧ (∀ x < z.N, s' x = if x ∈ S ∨ x = w then s x else s x * d.e w x) ∧ S' = insert w S

/-- What a batch's picks, each with its validity, are: every pick is the first largest value not picked before, and is
    valid if every earlier one was and it meets none of them. -/
inductive Picks (z : Sizes) (d : Decay) (v : ℕ → EReal) : List (ℕ × Bool) → Prop
  | nil : Picks z d v []
  | snoc (qs : List (ℕ × Bool)) (w : ℕ) (b : Bool) : Picks z d v qs →
      IsTop z.M (fun x => if x ∈ qs.map Prod.fst then ⊥ else v x) w →
      (b = true ↔ (∀ q ∈ qs, q.2 = true) ∧ ∀ q ∈ qs, ¬ d.meet w q.1) → Picks z d v (qs ++ [(w, b)])

/-- One pick's factor at a box. -/
def factor (d : Decay) (q : ℕ × Bool) (x : ℕ) : EReal := if q.2 = true ∧ x ≠ q.1 then d.e q.1 x else 1

/-- The values decayed by the picks. -/
def decayed (d : Decay) (v : ℕ → EReal) (qs : List (ℕ × Bool)) (x : ℕ) : EReal :=
  if 0 < v x then qs.foldl (fun a q => a * factor d q x) (v x) else v x

/-- Whether a box is a valid pick. -/
def Marked (qs : List (ℕ × Bool)) (x : ℕ) : Prop := ∃ q ∈ qs, q.2 = true ∧ q.1 = x

open Classical in
/-- A batch's result: decayed, then negated at the valid picks over the threshold. -/
def outcome (z : Sizes) (d : Decay) (v : ℕ → EReal) (qs : List (ℕ × Bool)) (x : ℕ) : EReal :=
  if Marked qs x ∧ z.t < decayed d v qs x then -decayed d v qs x else decayed d v qs x

variable {z : Sizes} {d : Decay}

/-- A factor is at least 0. -/
theorem factor_nonneg (q : ℕ × Bool) (x : ℕ) : 0 ≤ factor d q x := by
  unfold factor; split
  · exact d.nonneg _ _
  · exact zero_le_one

/-- A factor is at most 1. -/
theorem factor_le_one (q : ℕ × Bool) (x : ℕ) : factor d q x ≤ 1 := by
  unfold factor; split
  · exact d.le_one _ _
  · exact le_rfl

/-- A nonnegative value times a factor at most one is at most the value. -/
theorem mul_le_self {a f : EReal} (ha : 0 ≤ a) (hf : f ≤ 1) : a * f ≤ a := by
  simpa using mul_le_mul_of_nonneg_left hf ha

/-- One more pick multiplies every positive value by its factor. -/
theorem decayed_snoc (v : ℕ → EReal) (qs : List (ℕ × Bool)) (q : ℕ × Bool) (x : ℕ) :
    decayed d v (qs ++ [q]) x = if 0 < v x then decayed d v qs x * factor d q x else v x := by
  unfold decayed
  split <;> simp

/-- A positive value decays to one between 0 and itself. -/
theorem decayed_bounds (v : ℕ → EReal) (x : ℕ) (hv : 0 < v x) (qs : List (ℕ × Bool)) :
    0 ≤ decayed d v qs x ∧ decayed d v qs x ≤ v x := by
  induction qs using List.reverseRecOn with
  | nil => simp [decayed, hv.le]
  | append_singleton qs q ih =>
    rw [decayed_snoc, if_pos hv]
    exact ⟨mul_nonneg ih.1 (factor_nonneg q x), (mul_le_self ih.1 (factor_le_one q x)).trans ih.2⟩

/-- A box that every pick's factor leaves alone keeps its value. -/
theorem decayed_eq (v : ℕ → EReal) (x : ℕ) (qs : List (ℕ × Bool)) (h : ∀ q ∈ qs, factor d q x = 1) : decayed d v qs x = v x := by
  induction qs using List.reverseRecOn with
  | nil => simp [decayed]
  | append_singleton qs q ih =>
    rw [decayed_snoc, ih (fun r hr => h r (by simp [hr])), h q (by simp)]
    split <;> simp

/-- One more pick marks its box if it is valid. -/
theorem marked_snoc (qs : List (ℕ × Bool)) (q : ℕ × Bool) (x : ℕ) : Marked (qs ++ [q]) x ↔ Marked qs x ∨ (q.2 = true ∧ q.1 = x) := by
  unfold Marked
  constructor
  · rintro ⟨r, hr, h⟩
    rcases List.mem_append.mp hr with hr | hr
    · exact .inl ⟨r, hr, h⟩
    · rw [List.mem_singleton] at hr; subst hr; exact .inr h
  · rintro (⟨r, hr, h⟩ | h)
    · exact ⟨r, List.mem_append_left _ hr, h⟩
    · exact ⟨q, by simp, h⟩

/-- A pick that is not valid changes nothing. -/
theorem outcome_invalid (v : ℕ → EReal) (qs : List (ℕ × Bool)) (w x : ℕ) :
    outcome z d v (qs ++ [(w, false)]) x = outcome z d v qs x := by
  have hd : decayed d v (qs ++ [(w, false)]) x = decayed d v qs x := by
    rw [decayed_snoc]
    split
    · simp [factor]
    · simp [decayed, *]
  have hm : Marked (qs ++ [(w, false)]) x ↔ Marked qs x := by rw [marked_snoc]; simp
  unfold outcome
  rw [hd]
  by_cases h : Marked qs x ∧ z.t < decayed d v qs x
  · rw [if_pos h, if_pos ⟨hm.mpr h.1, h.2⟩]
  · rw [if_neg h, if_neg fun h' => h ⟨hm.mp h'.1, h'.2⟩]

/-- A valid pick at `w` that meets no earlier one multiplies every other positive value by its decay, and leaves the
    rest. -/
theorem outcome_valid (v : ℕ → EReal) (qs : List (ℕ × Bool)) (w x : ℕ) (hx : x ≠ w)
    (hm : ∀ q ∈ qs, ¬ d.meet w q.1) :
    outcome z d v (qs ++ [(w, true)]) x
      = if 0 < outcome z d v qs x then outcome z d v qs x * d.e w x else outcome z d v qs x := by
  have hf : factor d (w, true) x = d.e w x := by simp [factor, hx]
  have hmk : Marked (qs ++ [(w, true)]) x ↔ Marked qs x := by
    rw [marked_snoc]; simp [Ne.symm hx]
  by_cases hv : 0 < v x
  · have hb := decayed_bounds (d := d) v x hv qs
    have hd : decayed d v (qs ++ [(w, true)]) x = decayed d v qs x * d.e w x := by rw [decayed_snoc, if_pos hv, hf]
    unfold outcome
    rw [hd, hmk]
    by_cases hk : Marked qs x ∧ z.t < decayed d v qs x
    · obtain ⟨q, hq, -, hqx⟩ := hk.1
      have he : d.e w x = 1 := by rw [← hqx]; exact d.apart _ _ (hm q hq)
      rw [he, mul_one, if_pos hk, if_neg]
      have := z.pos.trans hk.2
      simp only [not_lt]
      exact EReal.neg_le_zero.mpr this.le
    · rw [if_neg hk]
      have hle := mul_le_self hb.1 (d.le_one w x)
      rw [if_neg (fun h => hk ⟨h.1, h.2.trans_le hle⟩)]
      split
      · rfl
      · have : decayed d v qs x = 0 := le_antisymm (not_lt.mp ‹_›) hb.1
        rw [this, zero_mul]
  · have h1 : ∀ l, decayed d v l x = v x := fun l => by unfold decayed; rw [if_neg hv]
    have h2 : ∀ l, outcome z d v l x = v x := fun l => by
      unfold outcome
      rw [h1, if_neg]
      exact fun h => hv (z.pos.trans h.2)
    rw [h2, h2, if_neg hv]

/-- How the batches' values `V` stand to `n` steps of the reference, `s` its scores and `S` the chosen boxes: a chosen
    box is over the threshold and negated, another over the threshold has its score, the rest are small on both sides. -/
def Related (z : Sizes) (s : ℕ → EReal) (S : Finset ℕ) (V : ℕ → EReal) : Prop :=
  (∀ x < z.N, (x ∈ S ∧ V x = -s x ∧ z.t < s x) ∨ (x ∉ S ∧ z.t < s x ∧ V x = s x) ∨ (x ∉ S ∧ s x ≤ z.t ∧ 0 ≤ V x ∧ V x ≤ z.t))
    ∧ (∀ x, z.N ≤ x → x < z.M → 0 ≤ V x ∧ V x ≤ z.t) ∧ S ⊆ Finset.range z.N

/-- A small nonnegative value stays one under a decay. -/
theorem small_step {a f : EReal} (h : 0 ≤ a ∧ a ≤ z.t) (hf0 : 0 ≤ f) (hf : f ≤ 1) :
    0 ≤ (if 0 < a then a * f else a) ∧ (if 0 < a then a * f else a) ≤ z.t := by
  split
  · exact ⟨mul_nonneg h.1 hf0, (mul_le_self h.1 hf).trans h.2⟩
  · exact h

/-- A value at most the threshold stays so under a decay. -/
theorem small_mul {a f : EReal} (h : a ≤ z.t) (hf0 : 0 ≤ f) (hf : f ≤ 1) : a * f ≤ z.t := by
  rcases le_total 0 a with ha | ha
  · exact (mul_le_self ha hf).trans h
  · have := mul_le_mul_of_nonneg_right ha hf0
    rw [zero_mul] at this
    exact this.trans z.pos.le

/-- One more pick: the reference takes a step when the pick is valid and over the threshold, and none otherwise. -/
theorem pick_step {v s : ℕ → EReal} {S : Finset ℕ} {qs : List (ℕ × Bool)} {w : ℕ} {b : Bool}
    (hpad : ∀ x, z.N ≤ x → x < z.M → 0 ≤ v x)
    (hlen : qs.length < 8)
    (hR : Related z s S (outcome z d v qs))
    (hw : IsTop z.M (fun x => if x ∈ qs.map Prod.fst then ⊥ else v x) w)
    (hb : b = true ↔ (∀ q ∈ qs, q.2 = true) ∧ ∀ q ∈ qs, ¬ d.meet w q.1) :
    (¬ (b = true ∧ z.t < v w) ∧ Related z s S (outcome z d v (qs ++ [(w, b)])))
      ∨ (w ∉ S ∧ ∀ s' S', Step z d s S s' S' → S' = insert w S ∧ Related z s' S' (outcome z d v (qs ++ [(w, b)]))) := by
  cases b with
  | false =>
    left
    have : outcome z d v (qs ++ [(w, false)]) = outcome z d v qs := funext fun x => outcome_invalid v qs w x
    rw [this]
    exact ⟨by simp, hR⟩
  | true =>
    obtain ⟨hall, hm⟩ := hb.mp rfl
    -- some padding place is not picked yet
    obtain ⟨p, hp, hpn⟩ : ∃ p ∈ Finset.Ico z.N z.M, p ∉ (qs.map Prod.fst).toFinset := by
      apply Finset.exists_mem_notMem_of_card_lt_card
      refine (List.toFinset_card_le _).trans_lt ?_
      rw [List.length_map, Nat.card_Ico]
      have := z.room
      omega
    rw [Finset.mem_Ico] at hp
    rw [List.mem_toFinset] at hpn
    have htop := (hw.2 p hp.2).1
    simp only [if_neg hpn] at htop
    have hp0 := hpad p hp.1 hp.2
    have hwn : w ∉ qs.map Prod.fst := fun h => by
      rw [if_pos h] at htop
      exact absurd (hp0.trans htop) (by simp)
    rw [if_neg hwn] at htop
    have hvw : 0 ≤ v w := hp0.trans htop
    have hwm : ¬ Marked qs w := fun ⟨q, hq, _, hqw⟩ => hwn (List.mem_map.mpr ⟨q, hq, hqw⟩)
    have hdw : decayed d v qs w = v w := decayed_eq v w qs fun q hq => by
      unfold factor
      rw [d.apart' _ _ (hm q hq)]
      split <;> rfl
    have hVw : outcome z d v qs w = v w := by
      unfold outcome
      rw [if_neg (fun h => hwm h.1), hdw]
    have hdw' : decayed d v (qs ++ [(w, true)]) w = v w := by
      rw [decayed_snoc, hdw]
      simp [factor]
    have hx' : ∀ x, x ≠ w → _ := fun x hx => outcome_valid (z := z) v qs w x hx hm
    -- a box over the threshold and not chosen has not been picked and is at most the pick
    have hlive : ∀ x < z.M, z.t < outcome z d v qs x → x ∉ qs.map Prod.fst ∧ outcome z d v qs x ≤ v x := by
      intro x _ hx
      have hV : outcome z d v qs x = decayed d v qs x ∧ ¬ Marked qs x := by
        unfold outcome at hx ⊢
        split at hx
        · rename_i h
          have := EReal.neg_le_zero.mpr (z.pos.trans h.2).le
          exact absurd (hx.trans_le this) (not_lt.mpr z.pos.le)
        · rename_i h
          rw [if_neg h]
          exact ⟨rfl, fun hk => h ⟨hk, hx⟩⟩
      refine ⟨fun hmem => ?_, ?_⟩
      · obtain ⟨q, hq, hqx⟩ := List.mem_map.mp hmem
        exact hV.2 ⟨q, hq, hall q hq, hqx⟩
      · rw [hV.1] at hx ⊢
        by_cases hv : 0 < v x
        · exact (decayed_bounds v x hv qs).2
        · unfold decayed; rw [if_neg hv]
    have hNM : z.N ≤ z.M := by have := z.room; omega
    by_cases ht : z.t < v w
    · right
      have hV' : outcome z d v (qs ++ [(w, true)]) w = -v w := by
        unfold outcome
        rw [hdw', if_pos ⟨(marked_snoc _ _ _).mpr (.inr ⟨rfl, rfl⟩), ht⟩]
      have hwN : w < z.N := by
        by_contra h
        have := (hR.2.1 w (not_lt.mp h) hw.1).2
        rw [hVw] at this
        exact absurd ht (not_lt.mpr this)
      obtain ⟨hwS, hsw⟩ : w ∉ S ∧ s w = v w := by
        rcases hR.1 w hwN with h | h | h
        · rw [hVw] at h
          have := EReal.neg_le_zero.mpr (z.pos.trans h.2.2).le
          rw [← h.2.1] at this
          exact absurd (z.pos.trans ht) (not_lt.mpr this)
        · exact ⟨h.1, by rw [← h.2.2, hVw]⟩
        · rw [hVw] at h; exact absurd ht (not_lt.mpr h.2.2.2)
      have hT : IsTop z.N (fun x => if x ∈ S then ⊥ else s x) w := by
        refine ⟨hwN, fun x hx => ?_⟩
        simp only [if_neg hwS, hsw]
        have hbot : (⊥ : EReal) < v w := (bot_lt_iff_ne_bot.mpr (ne_bot_of_gt z.pos)).trans ht
        rcases hR.1 x hx with h | h | h
        · rw [if_pos h.1]; exact ⟨bot_le, fun _ => hbot⟩
        · rw [if_neg h.1]
          have hl := hlive x (hx.trans_le hNM) (by rw [h.2.2]; exact h.2.1)
          have hc := hw.2 x (hx.trans_le hNM)
          simp only [] at hc
          rw [if_neg hl.1, if_neg hwn] at hc
          rw [h.2.2] at hl
          exact ⟨hl.2.trans hc.1, fun hlt => hl.2.trans_lt (hc.2 hlt)⟩
        · rw [if_neg h.1]
          exact ⟨h.2.1.trans ht.le, fun _ => h.2.1.trans_lt ht⟩
      refine ⟨hwS, fun s' S' ⟨w', hw', hs', hS'⟩ => ?_⟩
      obtain rfl := hT.unique hw'
      refine ⟨hS', fun x hx => ?_, fun x hx hx2 => ?_, ?_⟩
      · rw [hs' x hx, hS']
        by_cases hxw : x = w
        · subst hxw
          rw [hV', if_pos (.inr rfl), hsw]
          exact .inl ⟨Finset.mem_insert_self _ _, rfl, ht⟩
        · rw [hx' x hxw]
          have hmem : x ∈ insert w S ↔ x ∈ S := by simp [hxw]
          rw [hmem]
          rcases hR.1 x hx with h | h | h
          · left
            rw [if_pos (show x ∈ S ∨ x = w from .inl h.1), if_neg]
            · exact h
            · rw [h.2.1, not_lt]; exact EReal.neg_le_zero.mpr (z.pos.trans h.2.2).le
          · right
            have h0 : 0 < s x := z.pos.trans h.2.1
            rw [if_neg (by simp [h.1, hxw]), h.2.2, if_pos h0]
            by_cases hlt : z.t < s x * d.e w x
            · exact .inl ⟨h.1, hlt, rfl⟩
            · exact .inr ⟨h.1, not_lt.mp hlt, mul_nonneg h0.le (d.nonneg _ _), not_lt.mp hlt⟩
          · right; right
            rw [if_neg (by simp [h.1, hxw])]
            exact ⟨h.1, small_mul h.2.1 (d.nonneg _ _) (d.le_one _ _), small_step h.2.2 (d.nonneg _ _) (d.le_one _ _)⟩
      · rw [hx' x (by omega)]
        exact small_step (hR.2.1 x hx hx2) (d.nonneg _ _) (d.le_one _ _)
      · rw [hS']
        exact Finset.insert_subset (Finset.mem_range.mpr hwN) hR.2.2
    · left
      refine ⟨fun h => ht h.2, fun x hx => ?_, fun x hx hx2 => ?_, hR.2.2⟩
      · by_cases hxw : x = w
        · have hV' : outcome z d v (qs ++ [(w, true)]) w = outcome z d v qs w := by
            rw [hVw]
            unfold outcome
            rw [hdw', if_neg (fun h => ht h.2)]
          rw [hxw, hV', ← hxw]
          exact hR.1 x hx
        · rw [hx' x hxw]
          rcases hR.1 x hx with h | h | h
          · left
            rw [if_neg]
            · exact h
            · rw [h.2.1, not_lt]; exact EReal.neg_le_zero.mpr (z.pos.trans h.2.2).le
          · exfalso
            have hl := hlive x (hx.trans_le hNM) (by rw [h.2.2]; exact h.2.1)
            have hc := (hw.2 x (hx.trans_le hNM)).1
            simp only [] at hc
            rw [if_neg hl.1, if_neg hwn] at hc
            rw [h.2.2] at hl
            exact ht (h.2.1.trans_le (hl.2.trans hc))
          · right; right
            exact ⟨h.1, h.2.1, small_step h.2.2 (d.nonneg _ _) (d.le_one _ _)⟩
      · by_cases hxw : x = w
        · have hV' : outcome z d v (qs ++ [(w, true)]) w = outcome z d v qs w := by
            rw [hVw]
            unfold outcome
            rw [hdw', if_neg (fun h => ht h.2)]
          rw [hxw, hV', ← hxw]
          exact hR.2.1 x hx hx2
        · rw [hx' x hxw]
          exact small_step (hR.2.1 x hx hx2) (d.nonneg _ _) (d.le_one _ _)

/-- The reference's run: its scores and chosen boxes after each number of steps. -/
structure Run (z : Sizes) (d : Decay) where
  s : ℕ → ℕ → EReal
  S : ℕ → Finset ℕ
  start : S 0 = ∅
  step : ∀ n, Step z d (s n) (S n) (s (n + 1)) (S (n + 1))

/-- The values stand to `n` steps of the reference as they should, `n` of the boxes chosen. -/
def At (r : Run z d) (n : ℕ) (V : ℕ → EReal) : Prop := Related z (r.s n) (r.S n) V ∧ (r.S n).card = n

/-- Some value is over the threshold. -/
def Live (z : Sizes) (V : ℕ → EReal) : Prop := ∃ x < z.M, z.t < V x

/-- A batch takes the reference some steps further, at least one if a value is over the threshold. -/
theorem batch_steps (r : Run z d) {v : ℕ → EReal} {n : ℕ} (h : At r n v) {qs : List (ℕ × Bool)} (hq : Picks z d v qs)
    (hlen : qs.length ≤ 8) :
    ∃ n', n ≤ n' ∧ At r n' (outcome z d v qs) ∧ (qs ≠ [] → Live z v → n < n') := by
  induction hq with
  | nil =>
    refine ⟨n, le_rfl, ?_, by simp⟩
    have : outcome z d v [] = v := by
      funext x
      simp [outcome, Marked, decayed]
    rwa [this]
  | snoc qs w b _ hw hb ih =>
    rw [List.length_append, List.length_singleton] at hlen
    obtain ⟨n', hn, hA, hgo⟩ := ih (by omega)
    rcases pick_step (fun x hx hx2 => (h.1.2.1 x hx hx2).1) (by omega) hA.1 hw hb with ⟨hno, hR⟩ | ⟨hwS, hstep⟩
    · refine ⟨n', hn, ⟨hR, hA.2⟩, fun _ hl => ?_⟩
      by_cases hqs : qs = []
      · subst hqs
        exfalso
        obtain ⟨x, hx, hxt⟩ := hl
        have := (hw.2 x hx).1
        simp only [List.map_nil, List.not_mem_nil, if_false] at this
        exact hno ⟨hb.mpr (by simp), hxt.trans_le this⟩
      · exact hgo hqs hl
    · obtain ⟨hS, hR⟩ := hstep _ _ (r.step n')
      refine ⟨n' + 1, by omega, ⟨hR, ?_⟩, fun _ _ => by omega⟩
      rw [hS, Finset.card_insert_of_notMem hwS, hA.2]

/-- Two batches, as one trip makes them: the values after each come from eight picks of the values before. -/
def Batch (z : Sizes) (d : Decay) (v v' : ℕ → EReal) : Prop :=
  ∃ qs, Picks z d v qs ∧ qs.length = 8 ∧ ∀ x < z.M, v' x = outcome z d v qs x

/-- The relation depends on the values at the places only. -/
theorem Related.congr {s : ℕ → EReal} {S : Finset ℕ} {V V' : ℕ → EReal} (h : ∀ x < z.M, V' x = V x) (hR : Related z s S V) :
    Related z s S V' := by
  have := z.room
  refine ⟨fun x hx => ?_, fun x hx hx2 => ?_, hR.2.2⟩
  · rw [h x (by omega)]; exact hR.1 x hx
  · rw [h x hx2]; exact hR.2.1 x hx hx2

/-- After a batch the values stand to a later step of the reference as they should, a strictly later one if a value was over the threshold. -/
theorem Batch.at {r : Run z d} {v v' : ℕ → EReal} (hb : Batch z d v v') {n : ℕ} (h : At r n v) :
    ∃ n', n ≤ n' ∧ At r n' v' ∧ (Live z v → n < n') := by
  obtain ⟨qs, hq, hl, hv⟩ := hb
  obtain ⟨n', hn, hA, hgo⟩ := batch_steps r h hq hl.le
  exact ⟨n', hn, ⟨hA.1.congr hv, hA.2⟩, hgo (by rintro rfl; simp at hl)⟩

/-- No more boxes are chosen than there are. -/
theorem At.le {r : Run z d} {n : ℕ} {V : ℕ → EReal} (h : At r n V) : n ≤ z.N := by
  have := Finset.card_le_card h.1.2.2
  rwa [h.2, Finset.card_range] at this

/-- Once no value is over the threshold, the reference's later steps keep each chosen score and keep the others small. -/
theorem settled (r : Run z d) {n : ℕ} {V : ℕ → EReal} (h : At r n V) (hl : ¬ Live z V) (k : ℕ) :
    ∀ x < z.N, (V x = -r.s (n + k) x ∧ z.t < r.s (n + k) x) ∨ (r.s (n + k) x ≤ z.t ∧ 0 ≤ V x ∧ V x ≤ z.t) := by
  have hNM : z.N ≤ z.M := by have := z.room; omega
  suffices H : ∀ x < z.N, (x ∈ r.S (n + k) ∧ V x = -r.s (n + k) x ∧ z.t < r.s (n + k) x) ∨ (r.s (n + k) x ≤ z.t ∧ 0 ≤ V x ∧ V x ≤ z.t) from
    fun x hx => (H x hx).imp (fun h => h.2) id
  induction k with
  | zero =>
    intro x hx
    rcases h.1.1 x hx with h' | h' | h'
    · exact .inl h'
    · exact absurd ⟨x, hx.trans_le hNM, by rw [h'.2.2]; exact h'.2.1⟩ hl
    · exact .inr h'.2
  | succ k ih =>
    intro x hx
    obtain ⟨w, -, hs, hS⟩ := r.step (n + k)
    rw [← Nat.add_assoc, hs x hx, hS]
    rcases ih x hx with h' | h'
    · rw [if_pos (.inl h'.1)]
      exact .inl ⟨Finset.mem_insert_of_mem h'.1, h'.2⟩
    · right
      refine ⟨?_, h'.2⟩
      split
      · exact h'.1
      · exact small_mul h'.1 (d.nonneg _ _) (d.le_one _ _)

end Cert.Nms
-- ==== Proof.Nms.Iou.lean ====
/-
  The decay of one box by another over the extended reals: what the two programs compute is the same for boxes whose
  corners are in order, and is 1 for boxes that do not meet.
-/
module

public import Idealize.ShloMosaic.PureOps.Ideal.Laws

@[expose] public section

noncomputable section

namespace Cert.Nms

open Idealize.ShloMosaic

/-- A box by its corners. -/
structure Box where
  x1 : EReal
  y1 : EReal
  x2 : EReal
  y2 : EReal

/-- The corners are in order. -/
def Box.Ordered (b : Box) : Prop := b.x1 ≤ b.x2 ∧ b.y1 ≤ b.y2

/-- The area of a box. -/
def Box.area (b : Box) : EReal := (b.x2 - b.x1) * (b.y2 - b.y1)

/-- The area of two boxes' intersection. -/
def inter (p q : Box) : EReal :=
  max (min p.x2 q.x2 - max p.x1 q.x1) 0 * max (min p.y2 q.y2 - max p.y1 q.y1) 0

/-- The small constant, the half and the threshold. -/
def epsC : EReal := Ideal.ofBits .f32 0x3089705F#32
def halfC : EReal := Ideal.ofBits .f32 0x3F000000#32
def thresh : EReal := Ideal.ofBits .f32 0x3E4CCCCD#32

/-- Intersection over union. -/
def iou (p q : Box) : EReal := Ideal.div (inter p q) (p.area + q.area - inter p q + epsC)

/-- The decay as the kernel computes it. -/
def decayK (p q : Box) : EReal := Ideal.exp (Ideal.div (0 - iou p q * iou p q) halfC)

/-- The decay as the reference computes it. -/
def decayR (p q : Box) : EReal := Ideal.exp (Ideal.div (-(Ideal.pow (iou p q) (Ideal.ofBits .f32 0x40000000#32))) halfC)

/-- Whether two boxes' interiors meet. -/
def Box.Meets (p q : Box) : Prop := 0 < min p.x2 q.x2 - max p.x1 q.x1 ∧ 0 < min p.y2 q.y2 - max p.y1 q.y1

/-- Meeting is symmetric. -/
theorem Box.meets_comm (p q : Box) : p.Meets q ↔ q.Meets p := by
  unfold Box.Meets
  rw [min_comm p.x2, max_comm p.x1, min_comm p.y2, max_comm p.y1]

/-- The literal sigma is one half. -/
theorem halfC_eq : halfC = ((1 / 2 : ℝ) : EReal) := by
  simp [halfC, Ideal.ofBits, Ideal.ieee, -EReal.coe_mul]; norm_num

/-- The literal power is two. -/
theorem two_eq : Ideal.ofBits .f32 0x40000000#32 = ((2 : ℝ) : EReal) := by
  simp [Ideal.ofBits, Ideal.ieee, -EReal.coe_mul]; norm_num

/-- The literal one. -/
theorem one_eq : Ideal.ofBits .f32 0x3F800000#32 = 1 := by
  simp [Ideal.ofBits, Ideal.ieee, -EReal.coe_mul]; norm_num

/-- The literal minus infinity is the lowest value. -/
theorem bot_eq : Ideal.ofBits .f32 0xFF800000#32 = ⊥ := by
  simp [Ideal.ofBits, Ideal.ieee]

/-- The literal plus infinity is the highest value. -/
theorem top_eq : Ideal.ofBits .f32 0x7F800000#32 = ⊤ := by
  simp [Ideal.ofBits, Ideal.ieee]

/-- The literal that stands for no index. -/
theorem big_eq : Ideal.ofBits .f32 0x4BE4E1C0#32 = ((30000000 : ℝ) : EReal) := by
  simp [Ideal.ofBits, Ideal.ieee, -EReal.coe_mul]; norm_num

/-- The denominator's small term is positive. -/
theorem epsC_pos : 0 < epsC := by
  simp [epsC, Ideal.ofBits, Ideal.ieee, -EReal.coe_mul]

/-- The threshold is positive. -/
theorem thresh_pos : 0 < thresh := by
  simp [thresh, Ideal.ofBits, Ideal.ieee, -EReal.coe_mul]

/-- The literal minus threshold is the threshold's negation. -/
theorem neg_thresh_eq : Ideal.ofBits .f32 0xBE4CCCCD#32 = -thresh := by
  simp [thresh, Ideal.ofBits, Ideal.ieee, -EReal.coe_mul]

/-- Dividing by sigma is doubling. -/
theorem div_half (a : EReal) : Ideal.div a halfC = a * ((2 : ℝ) : EReal) := by
  rw [halfC_eq, Ideal.div, if_neg (by norm_num [← EReal.coe_zero]), ← EReal.coe_inv]
  norm_num

/-- A square is at least 0. -/
theorem mul_self_nonneg' (a : EReal) : 0 ≤ a * a := by
  rcases le_total 0 a with h | h
  · exact mul_nonneg h h
  · exact EReal.mul_nonneg_iff.mpr (.inr ⟨h, h⟩)

/-- The exponential of a real is the real exponential. -/
theorem exp_real (r : ℝ) : Ideal.exp (r : EReal) = ((Real.exp r : ℝ) : EReal) := rfl

/-- The exponential of a value that is not positive is at most one, and never negative. -/
theorem exp_bounds {a : EReal} (h : a ≤ 0) : 0 ≤ Ideal.exp a ∧ Ideal.exp a ≤ 1 := by
  induction a with
  | bot => exact ⟨le_rfl, zero_le_one⟩
  | top => simp at h
  | coe r =>
    have hr : r ≤ 0 := by exact_mod_cast h
    rw [exp_real]
    refine ⟨?_, ?_⟩
    · exact_mod_cast (Real.exp_pos r).le
    · exact_mod_cast Real.exp_le_one_iff.mpr hr

/-- The kernel's decay lies between 0 and 1. -/
theorem decayK_bounds (p q : Box) : 0 ≤ decayK p q ∧ decayK p q ≤ 1 := by
  apply exp_bounds
  rw [div_half, zero_sub]
  have h := mul_self_nonneg' (iou p q)
  have : -(iou p q * iou p q) ≤ 0 := EReal.neg_le_zero.mpr h
  have h2 : (0 : EReal) ≤ ((2 : ℝ) : EReal) := by exact_mod_cast (by norm_num : (0 : ℝ) ≤ 2)
  simpa using mul_le_mul_of_nonneg_right this h2

/-- An intersection's area is at least 0. -/
theorem inter_nonneg (p q : Box) : 0 ≤ inter p q := mul_nonneg (le_max_right _ _) (le_max_right _ _)

/-- Boxes that do not meet have no intersection. -/
theorem inter_apart {p q : Box} (h : ¬ p.Meets q) : inter p q = 0 := by
  unfold Box.Meets at h
  unfold inter
  by_cases hx : 0 < min p.x2 q.x2 - max p.x1 q.x1
  · have hy : min p.y2 q.y2 - max p.y1 q.y1 ≤ 0 := not_lt.mp fun hy => h ⟨hx, hy⟩
    rw [max_eq_right hy, mul_zero]
  · rw [max_eq_right (not_lt.mp hx), zero_mul]

/-- A side's length is not negative, or is bottom. -/
theorem side {a b : EReal} (h : a ≤ b) : 0 ≤ b - a ∨ b - a = ⊥ := by
  induction a with
  | bot =>
    induction b with
    | bot => right; rfl
    | top => left; simp
    | coe r => left; simp
  | top =>
    rw [top_le_iff] at h
    subst h; right; rfl
  | coe r =>
    left
    have h0 : ((r : ℝ) : EReal) - (r : ℝ) ≤ b - (r : ℝ) := EReal.sub_le_sub h le_rfl
    have h1 : ((r : ℝ) : EReal) - (r : ℝ) = 0 := by rw [← EReal.coe_sub]; simp
    rwa [h1] at h0

/-- The area of a box in order is at least 0, or the lowest value. -/
theorem area_cases {p : Box} (h : p.Ordered) : 0 ≤ p.area ∨ p.area = ⊥ := by
  unfold Box.area
  rcases side h.1 with hw | hw <;> rcases side h.2 with hh | hh
  · exact .inl (mul_nonneg hw hh)
  · rcases hw.eq_or_lt with hw0 | hw0
    · left; rw [← hw0, zero_mul]
    · right; rw [hh, EReal.mul_bot_of_pos hw0]
  · rcases hh.eq_or_lt with hh0 | hh0
    · left; rw [← hh0, mul_zero]
    · right; rw [hw, EReal.bot_mul_of_pos hh0]
  · left; rw [hw, hh]; simp

/-- The intersection is nothing or at most the first box. -/
theorem inter_le (p q : Box) : inter p q = 0 ∨ inter p q ≤ p.area := by
  by_cases hm : p.Meets q
  · right
    unfold inter Box.area
    rw [max_eq_left hm.1.le, max_eq_left hm.2.le]
    have hx : min p.x2 q.x2 - max p.x1 q.x1 ≤ p.x2 - p.x1 := EReal.sub_le_sub (min_le_left _ _) (le_max_left _ _)
    have hy : min p.y2 q.y2 - max p.y1 q.y1 ≤ p.y2 - p.y1 := EReal.sub_le_sub (min_le_left _ _) (le_max_left _ _)
    exact (mul_le_mul_of_nonneg_right hx hm.2.le).trans (mul_le_mul_of_nonneg_left hy (hm.1.le.trans hx))
  · exact .inl (inter_apart hm)

/-- The denominator is positive, or bottom. -/
theorem denom_cases {p q : Box} (hp : p.Ordered) (hq : q.Ordered) :
    p.area + q.area - inter p q + epsC = ⊥ ∨ 0 < p.area + q.area - inter p q + epsC := by
  rcases area_cases hp with h1 | h1
  · rcases area_cases hq with h2 | h2
    · have hs : inter p q ≤ p.area + q.area := by
        rcases inter_le p q with h | h
        · rw [h]; exact add_nonneg h1 h2
        · exact h.trans (le_add_of_nonneg_right h2)
      rcases side hs with h | h
      · right
        exact epsC_pos.trans_le (le_add_of_nonneg_left h)
      · left; rw [h, EReal.bot_add]
    · left; rw [h2, EReal.add_bot, EReal.bot_sub, EReal.bot_add]
  · left; rw [h1, EReal.bot_add, EReal.bot_sub, EReal.bot_add]

/-- For boxes in order the quotient is a product by an inverse that is at least 0. -/
theorem iou_eq {p q : Box} (hp : p.Ordered) (hq : q.Ordered) :
    iou p q = inter p q * (p.area + q.area - inter p q + epsC)⁻¹ ∧ 0 ≤ (p.area + q.area - inter p q + epsC)⁻¹ := by
  unfold iou Ideal.div
  rcases denom_cases hp hq with h | h
  · rw [h]; simp
  · rw [if_neg h.ne']
    exact ⟨rfl, EReal.inv_nonneg_of_nonneg h.le⟩

/-- For boxes in order the overlap ratio is at least 0. -/
theorem iou_nonneg {p q : Box} (hp : p.Ordered) (hq : q.Ordered) : 0 ≤ iou p q := by
  rw [(iou_eq hp hq).1]
  exact mul_nonneg (inter_nonneg p q) (iou_eq hp hq).2

/-- Boxes that do not meet do not decay each other. -/
theorem decayK_apart {p q : Box} (hp : p.Ordered) (hq : q.Ordered) (h : ¬ p.Meets q) : decayK p q = 1 := by
  have h0 : iou p q = 0 := by rw [(iou_eq hp hq).1, inter_apart h, zero_mul]
  unfold decayK
  rw [h0, div_half]
  simp only [mul_zero, sub_zero, zero_mul]
  rw [← EReal.coe_zero, exp_real]
  simp

/-- The power two of a value that is at least 0 is its square. -/
theorem pow_two {a : EReal} (h : 0 ≤ a) : Ideal.pow a ((2 : ℝ) : EReal) = a * a := by
  induction a with
  | bot => simp at h
  | top =>
    have h2 : (0 : EReal) < ((2 : ℝ) : EReal) := by exact_mod_cast (by norm_num : (0 : ℝ) < 2)
    show (if (0 : EReal) < ((2 : ℝ) : EReal) then ⊤ else _) = _
    rw [if_pos h2]; rfl
  | coe r =>
    show ((Real.rpow r 2 : ℝ) : EReal) = _
    rw [← EReal.coe_mul]
    congr 1
    show r ^ (2 : ℝ) = _
    rw [Real.rpow_two, sq]

/-- The two programs' decays agree. -/
theorem decayR_eq {p q : Box} (hp : p.Ordered) (hq : q.Ordered) : decayR p q = decayK p q := by
  unfold decayR decayK
  rw [two_eq, pow_two (iou_nonneg hp hq), zero_sub]

end Cert.Nms
-- ==== Proof.Nms.Key.lean ====
/-
  Where the boxes lie in the kernel's 80 by 128 arrays, and what its reductions over such an array are over the extended
  reals: the running maximum's number, the value at a number, whether any value is over the threshold.
-/
module

public import proofs.«01_k».proof.Proof.Nms.Val
public import proofs.«01_k».proof.Proof.Nms.Sim
public import proofs.«01_k».proof.Proof.Nms.Iou

@[expose] public section

noncomputable section

namespace Cert.Nms

open Idealize.ShloMosaic

/-- The box number at an index. -/
def key (i : A80.Idx) : ℕ := (i 1).val * 80 + (i 0).val % 8 * 10 + (i 0).val / 8

/-- The index of a row and a lane. -/
abbrev at2 (r c : ℕ) (hr : r < 80) (hc : c < 128) : A80.Idx := fun a => Fin.cases ⟨r, hr⟩ (fun b => Fin.cases ⟨c, hc⟩ (fun x => x.elim0) b) a

/-- The index of a box number. -/
def pos (n : ℕ) : A80.Idx :=
  at2 (8 * (n % 80 % 10) + n % 80 / 10) (n / 80 % 128) (by omega) (by omega)

/-- Indices with the same row and lane are equal. -/
theorem ext2 {i j : A80.Idx} (h0 : (i 0).val = (j 0).val) (h1 : (i 1).val = (j 1).val) : i = j := by
  funext a
  match a with
  | ⟨0, _⟩ => exact Fin.ext h0
  | ⟨1, _⟩ => exact Fin.ext h1

/-- The row of a box number's place. -/
theorem pos_row (n : ℕ) : (pos n 0).val = 8 * (n % 80 % 10) + n % 80 / 10 := rfl
/-- The lane of a box number's place. -/
theorem pos_lane (n : ℕ) : (pos n 1).val = n / 80 % 128 := rfl

/-- A box number is below the padded count. -/
theorem key_lt (i : A80.Idx) : key i < 10240 := by
  have h0 : (i 0).val < 80 := (i 0).isLt
  have h1 : (i 1).val < 128 := (i 1).isLt
  unfold key; omega

/-- The number at a number's place is the number. -/
theorem key_pos {n : ℕ} (h : n < 10240) : key (pos n) = n := by
  have h1 : (8 * (n % 80 % 10) + n % 80 / 10) % 8 = n % 80 / 10 := by omega
  have h2 : (8 * (n % 80 % 10) + n % 80 / 10) / 8 = n % 80 % 10 := by omega
  unfold key; rw [pos_row, pos_lane, h1, h2]; omega

/-- The place of an index's number is the index. -/
theorem pos_key (i : A80.Idx) : pos (key i) = i := by
  have h0 : (i 0).val < 80 := (i 0).isLt
  have h1 : (i 1).val < 128 := (i 1).isLt
  have h2 : key i / 80 = (i 1).val := by unfold key; omega
  have h3 : key i % 80 = (i 0).val % 8 * 10 + (i 0).val / 8 := by unfold key; omega
  apply ext2
  · rw [pos_row, h3]; omega
  · rw [pos_lane, h2]; exact Nat.mod_eq_of_lt h1

/-- A number as an extended real. -/
def num (n : ℕ) : EReal := ((n : ℝ) : EReal)

/-- Numbers compare as their values do. -/
theorem num_le {a b : ℕ} : num a ≤ num b ↔ a ≤ b := by unfold num; norm_cast
/-- Numbers compare strictly as their values do. -/
theorem num_lt {a b : ℕ} : num a < num b ↔ a < b := by unfold num; norm_cast
/-- Different numbers have different values. -/
theorem num_inj {a b : ℕ} : num a = num b ↔ a = b := by unfold num; norm_cast

/-- A truth value's bit is 1 if it is true. -/
theorem bit_iff (b : Bool) : BitVec.ofBool b = 1#1 ↔ b = true := by cases b <;> decide

/-- A selection at an index. -/
theorem select_at {s : Shape} {α : Type} (c : IVec s 1) (x y : s.Idx → α) (i : s.Idx) :
    select c x y i = if c i = 1#1 then x i else y i := rfl

/-- The comparison equal. -/
theorem cmp_eq (a b : EReal) : Ideal.cmp .oeq a b = 1#1 ↔ a = b := by simp [Ideal.cmp, bit_iff]
/-- The comparison greater. -/
theorem cmp_gt (a b : EReal) : Ideal.cmp .ogt a b = 1#1 ↔ b < a := by simp [Ideal.cmp, bit_iff]
/-- The comparison less. -/
theorem cmp_lt (a b : EReal) : Ideal.cmp .olt a b = 1#1 ↔ a < b := by simp [Ideal.cmp, bit_iff]
/-- The comparison different. -/
theorem cmp_ne (a b : EReal) : Ideal.cmp .one a b = 1#1 ↔ a ≠ b := by simp [Ideal.cmp, bit_iff]
/-- The comparison at most. -/
theorem cmp_le (a b : EReal) : Ideal.cmp .ole a b = 1#1 ↔ a ≤ b := by simp [Ideal.cmp, bit_iff]
/-- The and of two bits. -/
theorem and_bit (a b : BitVec 1) : IntOp.andi a b = 1#1 ↔ a = 1#1 ∧ b = 1#1 := by revert a b; decide
/-- The or of two bits. -/
theorem or_bit (a b : BitVec 1) : IntOp.ori a b = 1#1 ↔ a = 1#1 ∨ b = 1#1 := by revert a b; decide
/-- A bit's negation. -/
theorem not_bit (a : BitVec 1) : IntOp.xori a 1#1 = 1#1 ↔ ¬ a = 1#1 := by revert a; decide

/-! ### The flat indices -/

/-- The row's part of the flat index, as words: the row's remainder by 8 … -/
def remW (x : BitVec 32) : BitVec 32 :=
  have d : BitVec 32 := Scalar.select (Scalar.cmpi .eq 8#32 0#32) 1#32 8#32
  have r : BitVec 32 := IntOp.remsi .vector x d
  Scalar.select (IntOp.andi (IntOp.xori (IntOp.cmpi .slt r 0#32) (Scalar.cmpi .slt d 0#32)) (IntOp.cmpi .ne r 0#32))
    (IntOp.addi r d) r

/-- … and its quotient. -/
def quoW (x : BitVec 32) : BitVec 32 :=
  have q : BitVec 32 := IntOp.divsi .vector x 8#32
  Scalar.select (IntOp.andi (IntOp.cmpi .ne (IntOp.subi (IntOp.cmpi .sgt x 0#32 |>.zeroExtend 32) (IntOp.cmpi .slt x 0#32 |>.zeroExtend 32))
      (Scalar.subi (Scalar.extui (Scalar.cmpi .sgt 8#32 0#32)) (Scalar.extui (Scalar.cmpi .slt 8#32 0#32))))
      (IntOp.cmpi .ne (IntOp.remsi .vector x 8#32) 0#32))
    (IntOp.subi q 1#32) q

/-- The word computed for a row's remainder by 8 is that remainder. -/
theorem remW_eq : ∀ r : Fin 80, remW (BitVec.ofNat 32 r.val) = BitVec.ofNat 32 (r.val % 8) := by decide
/-- The word computed for its quotient is that quotient. -/
theorem quoW_eq : ∀ r : Fin 80, quoW (BitVec.ofNat 32 r.val) = BitVec.ofNat 32 (r.val / 8) := by decide

/-- The flat index at an index is its box number. -/
theorem flatV_at (i : A80.Idx) : flatV (F := Ideal) i = num (key i) := by
  have h0 : (i 0).val < 80 := (i 0).isLt
  have h1 : (i 1).val < 128 := (i 1).isLt
  have e : flatV (F := Ideal) i
      = ((((BitVec.ofNat 32 (0 * 128 + (i 1).val) * 80#32 + remW (BitVec.ofNat 32 (0 * 80 + (i 0).val)) * 10#32
        + quoW (BitVec.ofNat 32 (0 * 80 + (i 0).val)) : BitVec 32).toInt : ℝ)) : EReal) := rfl
  simp only [Nat.zero_mul, Nat.zero_add] at e
  rw [e, remW_eq ⟨_, h0⟩, quoW_eq ⟨_, h0⟩]
  have hw : (BitVec.ofNat 32 (i 1).val * 80#32 + BitVec.ofNat 32 ((i 0).val % 8) * 10#32 + BitVec.ofNat 32 ((i 0).val / 8) : BitVec 32)
      = BitVec.ofNat 32 (key i) := by
    unfold key
    rw [BitVec.ofNat_add, BitVec.ofNat_add, BitVec.ofNat_mul, BitVec.ofNat_mul]
  rw [hw]
  have hk := key_lt i
  have ht : (BitVec.ofNat 32 (key i)).toInt = (key i : ℤ) := by
    rw [BitVec.toInt_eq_toNat_of_lt] <;> rw [BitVec.toNat_ofNat, Nat.mod_eq_of_lt (by omega)]
    omega
  rw [ht]
  unfold num
  norm_cast

/-! ### Reductions to one value -/

/-- An array of one place has one index. -/
theorem one_idx (i j : U1.Idx) : i = j := funext fun a => Fin.ext (by
  have h : ∀ k : U1.Idx, (k a).val = 0 := fun k => by
    have := (k a).isLt
    fin_cases a
    simpa using this
  rw [h i, h j])

/-- A maximum folded from the lowest value is an upper bound and is reached. -/
theorem fold_max_spec {ι : Type} (s : Finset ι) (hs : s.Nonempty) (f : ι → EReal) :
    (∀ i ∈ s, f i ≤ s.fold max ⊥ f) ∧ ∃ i ∈ s, s.fold max ⊥ f = f i := by
  have e : s.fold max ⊥ f = s.sup f := rfl
  rw [e]
  refine ⟨fun i hi => Finset.le_sup hi, ?_⟩
  obtain ⟨i, hi, h⟩ := Finset.exists_mem_eq_sup s hs f
  exact ⟨i, hi, h⟩

/-- A minimum folded from the highest value is a lower bound and is reached. -/
theorem fold_min_spec {ι : Type} (s : Finset ι) (hs : s.Nonempty) (f : ι → EReal) :
    (∀ i ∈ s, s.fold min ⊤ f ≤ f i) ∧ ∃ i ∈ s, s.fold min ⊤ f = f i := by
  have e : s.fold min ⊤ f = s.inf f := rfl
  rw [e]
  refine ⟨fun i hi => Finset.inf_le hi, ?_⟩
  obtain ⟨i, hi, h⟩ := Finset.exists_mem_eq_inf s hs f
  exact ⟨i, hi, h⟩

/-- A maximum over a whole array is its largest value. -/
theorem max_all {s t : Shape} {axes : List (Fin t.rank)} (hc : s.ShapeCasts t) (x : FVec Ideal s .f32) (hr : t.Reduces axes U1) (hφ : FKind.Formats .f32)
    (ha : (0xFF800000#32 : BitVec 32) = FKind.maximumf.neutral .f32 hφ) (i0 : s.Idx) (j : U1.Idx) :
    (∀ i, x i ≤ multiReduction (F := Ideal) .maximumf axes U1 (shapeCast t x hc) 0xFF800000#32 hr hφ ha j)
      ∧ ∃ i, multiReduction (F := Ideal) .maximumf axes U1 (shapeCast t x hc) 0xFF800000#32 hr hφ ha j = x i := by
  rw [multiReduction_maximumf_eq_fold, Finset.filter_true_of_mem fun i _ => one_idx _ _]
  have h := fold_max_spec Finset.univ ⟨(Shape.reshapeEquiv hc).symm i0, Finset.mem_univ _⟩ (shapeCast t x hc)
  rw [show (FloatOps.ofBits (F := Ideal) .f32 0xFF800000#32 : EReal) = ⊥ from bot_eq]
  refine ⟨fun i => ?_, ?_⟩
  · have := h.1 ((Shape.reshapeEquiv hc).symm i) (Finset.mem_univ _)
    simp only [shapeCast, Equiv.apply_symm_apply] at this
    exact this
  · obtain ⟨i, -, hi⟩ := h.2
    exact ⟨_, hi⟩

/-- A minimum over a whole array is its smallest value. -/
theorem min_all {s t : Shape} {axes : List (Fin t.rank)} (hc : s.ShapeCasts t) (x : FVec Ideal s .f32) (hr : t.Reduces axes U1) (hφ : FKind.Formats .f32)
    (ha : (0x7F800000#32 : BitVec 32) = FKind.minimumf.neutral .f32 hφ) (i0 : s.Idx) (j : U1.Idx) :
    (∀ i, multiReduction (F := Ideal) .minimumf axes U1 (shapeCast t x hc) 0x7F800000#32 hr hφ ha j ≤ x i)
      ∧ ∃ i, multiReduction (F := Ideal) .minimumf axes U1 (shapeCast t x hc) 0x7F800000#32 hr hφ ha j = x i := by
  rw [multiReduction_minimumf_eq_fold, Finset.filter_true_of_mem fun i _ => one_idx _ _]
  have h := fold_min_spec Finset.univ ⟨(Shape.reshapeEquiv hc).symm i0, Finset.mem_univ _⟩ (shapeCast t x hc)
  rw [show (FloatOps.ofBits (F := Ideal) .f32 0x7F800000#32 : EReal) = ⊤ from top_eq]
  refine ⟨fun i => ?_, ?_⟩
  · have := h.1 ((Shape.reshapeEquiv hc).symm i) (Finset.mem_univ _)
    simp only [shapeCast, Equiv.apply_symm_apply] at this
    exact this
  · obtain ⟨i, -, hi⟩ := h.2
    exact ⟨_, hi⟩

/-! ### The maximum's number -/

/-- A value and a number are the largest of the values numbered `lo` to `hi` and its first number. -/
def Best (c : ℕ → EReal) (lo hi : ℕ) (x f : EReal) : Prop :=
  ∃ n, lo ≤ n ∧ n < hi ∧ x = c n ∧ f = num n ∧ ∀ j, lo ≤ j → j < hi → c j ≤ x ∧ (j < n → c j < x)

/-- The combination of the best of two adjoining ranges is the best of both. -/
theorem Best.cmb {c : ℕ → EReal} {lo mid hi : ℕ} {s : Shape} {a b : Pair Ideal s} {i : s.Idx}
    (ha : Best c lo mid (a.1 i) (a.2 i)) (hb : Best c mid hi (b.1 i) (b.2 i)) :
    Best c lo hi ((cmb a b).1 i) ((cmb a b).2 i) := by
  obtain ⟨n, h1, h2, hx, hf, hn⟩ := ha
  obtain ⟨m, k1, k2, kx, kf, km⟩ := hb
  have e : ∀ α : Type, ∀ x y : s.Idx → α, select (cmpf (F := Ideal) (φ := .f32) .ogt b.1 a.1) x y i = if (a.1 i : EReal) < b.1 i then x i else y i := by
    intro α x y
    rw [select_at]
    exact if_congr (cmp_gt _ _) rfl rfl
  unfold Cert.Nms.cmb
  simp only [e]
  by_cases hlt : (a.1 i : EReal) < b.1 i
  · simp only [if_pos hlt]
    refine ⟨m, by omega, k2, kx, kf, fun j hj1 hj2 => ?_⟩
    by_cases hj : j < mid
    · have := (hn j hj1 hj).1.trans_lt hlt
      exact ⟨this.le, fun _ => this⟩
    · exact km j (by omega) hj2
  · simp only [if_neg hlt]
    refine ⟨n, h1, by omega, hx, hf, fun j hj1 hj2 => ?_⟩
    by_cases hj : j < mid
    · exact hn j hj1 hj
    · exact ⟨(km j (by omega) hj2).1.trans (not_lt.mp hlt), fun _ => by omega⟩

/-- The values of an array by box number. -/
def byKey (x : FVec Ideal A80 .f32) (n : ℕ) : EReal := x (pos n)

/-- One entry alone. -/
theorem best_leaf (cum : FVec Ideal A80 .f32) (n : ℕ) (hn : n < 10240) (i : A80.Idx) (hi : i = pos n) :
    Best (byKey cum) n (n + 1) (cum i) (flatV (F := Ideal) i) := by
  subst hi
  refine ⟨n, le_rfl, Nat.lt_succ_self n, rfl, by rw [flatV_at, key_pos hn], fun j h1 h2 => ?_⟩
  obtain rfl : j = n := by omega
  exact ⟨le_rfl, fun h => by omega⟩

/-- The five groups of half `h` combined are the best of five numbers. -/
theorem best_fold40 (cum : FVec Ideal A80 .f32) (h : ℕ) (hh : h < 2) (hs : A80.Slices ![40 * h, 0] A40) (i : A8.Idx) :
    Best (byKey cum) (80 * (i 1).val + 10 * (i 0).val + 5 * h) (80 * (i 1).val + 10 * (i 0).val + 5 * h + 5)
      ((fold40 (extractStridedSlice A40 ![40 * h, 0] cum hs, extractStridedSlice A40 ![40 * h, 0] (flatV (F := Ideal)) hs)).1 i)
      ((fold40 (extractStridedSlice A40 ![40 * h, 0] cum hs, extractStridedSlice A40 ![40 * h, 0] (flatV (F := Ideal)) hs)).2 i) := by
  have h0 : (i 0).val < 8 := (i 0).isLt
  have h1 : (i 1).val < 128 := (i 1).isLt
  have leaf : ∀ (k : ℕ) (_ : k < 5) (hk : A40.Slices ![8 * k, 0] A8),
      Best (byKey cum) (80 * (i 1).val + 10 * (i 0).val + 5 * h + k) (80 * (i 1).val + 10 * (i 0).val + 5 * h + k + 1)
        ((rows8 ![8 * k, 0] hk (extractStridedSlice A40 ![40 * h, 0] cum hs, extractStridedSlice A40 ![40 * h, 0] (flatV (F := Ideal)) hs)).1 i)
        ((rows8 ![8 * k, 0] hk (extractStridedSlice A40 ![40 * h, 0] cum hs, extractStridedSlice A40 ![40 * h, 0] (flatV (F := Ideal)) hs)).2 i) := by
    intro k hk5 hk
    refine best_leaf cum _ (by omega) _ (ext2 ?_ ?_)
    · rw [pos_row]
      show 40 * h + (8 * k + (i 0).val) = _
      omega
    · rw [pos_lane]
      show 0 + (0 + (i 1).val) = _
      omega
  exact ((leaf 0 (by omega) (by decide)).cmb (leaf 1 (by omega) (by decide))).cmb
    (((leaf 2 (by omega) (by decide)).cmb (leaf 3 (by omega) (by decide))).cmb (leaf 4 (by omega) (by decide)))

/-- The 80 rows folded to eight are the best of ten numbers each. -/
theorem best_fold80 (cum : FVec Ideal A80 .f32) (i : A8.Idx) :
    Best (byKey cum) (80 * (i 1).val + 10 * (i 0).val) (80 * (i 1).val + 10 * (i 0).val + 10)
      ((fold80 cum (flatV (F := Ideal))).1 i) ((fold80 cum (flatV (F := Ideal))).2 i) :=
  (best_fold40 cum 0 (by omega) (by decide) i).cmb (best_fold40 cum 1 (by omega) (by decide) i)

/-- The eight rows folded to one are the best of a lane's eighty numbers. -/
theorem best_argRow (cum : FVec Ideal A80 .f32) (i : A1.Idx) :
    Best (byKey cum) (80 * (i 1).val) (80 * (i 1).val + 80)
      ((argRow (fold80 cum (flatV (F := Ideal)))).1 i) ((argRow (fold80 cum (flatV (F := Ideal)))).2 i) := by
  have h0 : (i 0).val = 0 := by have : (i 0).val < 1 := (i 0).isLt; omega
  have leaf : ∀ (k : ℕ) (_ : k < 8) (hk : A8.Slices ![k, 0] A1),
      Best (byKey cum) (80 * (i 1).val + 10 * k) (80 * (i 1).val + 10 * k + 10)
        ((rowAt ![k, 0] hk (fold80 cum (flatV (F := Ideal)))).1 i) ((rowAt ![k, 0] hk (fold80 cum (flatV (F := Ideal)))).2 i) := by
    intro k hk8 hk
    have h1 : (i 1).val < 128 := (i 1).isLt
    have := best_fold80 cum (fun a => ⟨(![k, 0] : Fin 2 → Nat) a + (i (a.cast hk.1.symm)).val,
      Nat.lt_of_lt_of_le (Nat.add_lt_add_left (i _).isLt _) (hk.2 a)⟩)
    have e0 : (![k, 0] : Fin 2 → Nat) 0 + (i ((0 : Fin 2).cast hk.1.symm)).val = k := by
      show k + (i 0).val = k
      omega
    have e1 : (![k, 0] : Fin 2 → Nat) 1 + (i ((1 : Fin 2).cast hk.1.symm)).val = (i 1).val := by
      show 0 + (i 1).val = _
      omega
    simp only [e0, e1] at this
    exact this
  exact (((leaf 0 (by omega) (by decide)).cmb (leaf 1 (by omega) (by decide))).cmb
      ((leaf 2 (by omega) (by decide)).cmb (leaf 3 (by omega) (by decide)))).cmb
    (((leaf 4 (by omega) (by decide)).cmb (leaf 5 (by omega) (by decide))).cmb
      ((leaf 6 (by omega) (by decide)).cmb (leaf 7 (by omega) (by decide))))

/-- The lane of a number. -/
def lane (n : ℕ) (h : n < 10240) : A1.Idx := fun a => Fin.cases ⟨0, by decide⟩ (fun b => Fin.cases ⟨n / 80, by show n / 80 < 128; omega⟩ (fun x => x.elim0) b) a

/-- Indices of one row with the same lane are equal. -/
theorem lane_eq (i : A1.Idx) (j : A1.Idx) (h : (i 1).val = (j 1).val) : i = j := by
  funext a
  match a with
  | ⟨0, _⟩ =>
    have h1 : (i 0).val < 1 := (i 0).isLt
    have h2 : (j 0).val < 1 := (j 0).isLt
    exact Fin.ext (by show (i 0).val = (j 0).val; omega)
  | ⟨1, _⟩ => exact Fin.ext h

/-- The winner of the lanes' bests is the first number of the largest value of all. -/
theorem winner_top (c : ℕ → EReal) (z : Pair Ideal A1)
    (hz : ∀ i : A1.Idx, Best c (80 * (i 1).val) (80 * (i 1).val + 80) (z.1 i) (z.2 i)) :
    ∃ w, IsTop 10240 c w ∧ winner z = fun _ => num w := by
  let i0 : A1.Idx := lane 0 (by decide)
  -- the largest value
  let j3 : U3.Idx := fun a => ⟨(![0, 0, 0] : Fin 3 → Nat) a, by revert a; decide⟩
  let j : U1.Idx := Shape.reshapeEquiv (s := U1) (s' := U3) (by decide) j3
  let m : EReal := multiReduction (F := Ideal) .maximumf [1, 2] U1 (shapeCast B1 z.1 (by decide)) 0xFF800000#32 (by decide) (.inl rfl) rfl j
  obtain ⟨hm1, hm2⟩ := max_all (t := B1) (axes := [1, 2]) (by decide) z.1 (by decide) (.inl rfl) rfl i0 j
  change ∀ i, z.1 i ≤ m at hm1
  change ∃ i, m = z.1 i at hm2
  -- the candidates
  let y : FVec Ideal A1 .f32 := fun i => if z.1 i = m then z.2 i else ((30000000 : ℝ) : EReal)
  have hy : select (cmpf (F := Ideal) (φ := .f32) .oeq z.1 (fun _ => m)) z.2 (broadcast A1 (Scalar.ofBits (F := Ideal) .f32 0x4BE4E1C0#32)) = y := by
    funext i
    rw [select_at]
    refine if_congr (cmp_eq _ _) rfl ?_
    exact big_eq
  obtain ⟨hr1, hr2⟩ := min_all (t := B1) (axes := [1, 2]) (by decide) y (by decide) (.inl rfl) rfl i0 j
  have hw : winner z = fun _ => multiReduction (F := Ideal) .minimumf [1, 2] U1 (shapeCast B1 y (by decide)) 0x7F800000#32 (by decide) (.inl rfl) rfl j := by
    rw [← hy]; rfl
  generalize multiReduction (F := Ideal) .minimumf [1, 2] U1 (shapeCast B1 y (by decide)) 0x7F800000#32 (by decide) (.inl rfl) rfl j = r at hr1 hr2 hw
  obtain ⟨im, him⟩ := hm2
  obtain ⟨nm, hn1, hn2, hnx, hnf, hnb⟩ := hz im
  have hlane : ∀ i : A1.Idx, (i 1).val < 128 := fun i => (i 1).isLt
  have hbig : ∀ n, n < 10240 → num n < ((30000000 : ℝ) : EReal) := fun n h => by
    unfold num
    have : (n : ℝ) < 10240 := by exact_mod_cast h
    exact_mod_cast (by linarith : (n : ℝ) < 30000000)
  have hrn : r ≤ num nm := by
    have := hr1 im
    simp only [y, if_pos him.symm] at this
    rwa [hnf] at this
  obtain ⟨ir, hir⟩ := hr2
  have hir' : z.1 ir = m ∧ r = z.2 ir := by
    simp only [y] at hir
    split at hir
    · exact ⟨‹_›, hir⟩
    · have := hbig nm (by have := hlane im; omega)
      rw [hir] at hrn
      exact absurd hrn (not_le.mpr this)
  obtain ⟨w, hw1, hw2, hwx, hwf, hwb⟩ := hz ir
  refine ⟨w, ⟨by have := hlane ir; omega, fun k hk => ?_⟩, by rw [hw, hir'.2, hwf]⟩
  have hcw : c w = m := by rw [← hwx, hir'.1]
  rw [hcw]
  obtain ⟨n, h1, h2, hx, hf, hb⟩ := hz (lane k hk)
  have hlk : (lane k hk 1).val = k / 80 := rfl
  rw [hlk] at h1 h2 hb
  have hk1 := hb k (by omega) (by omega)
  refine ⟨hk1.1.trans (hm1 _), fun hkw => ?_⟩
  rcases (hm1 (lane k hk)).lt_or_eq with hlt | heq
  · exact hk1.1.trans_lt hlt
  · rw [← heq]
    refine hk1.2 ?_
    by_contra hnk
    have := hr1 (lane k hk)
    simp only [y, if_pos heq] at this
    rw [hf, hir'.2, hwf, num_le] at this
    omega

/-- The index of the largest of the running values. -/
theorem winOf_top (g : Geo Ideal) (hg : g.flat = flatV) (cum : FVec Ideal A80 .f32) :
    ∃ w, IsTop 10240 (byKey cum) w ∧ winOf g cum = fun _ => num w := by
  unfold winOf
  rw [hg]
  exact winner_top (byKey cum) _ (best_argRow cum)

/-! ### The value at a number -/

/-- The mask of a number's place is 1 there and nowhere else. -/
theorem at1_iff (w : ℕ) (hw : w < 10240) (i : A80.Idx) :
    at1 (F := Ideal) flatV (fun _ => num w) i = 1#1 ↔ i = pos w := by
  have e : at1 (F := Ideal) flatV (fun _ => num w) i = Ideal.cmp .oeq (flatV (F := Ideal) i) (num w) := rfl
  rw [e, cmp_eq, flatV_at, num_inj]
  constructor
  · rintro rfl; exact (pos_key i).symm
  · rintro rfl; exact key_pos hw

/-- The sum over the one place of a number is the value there. -/
theorem pull_at (w : ℕ) (hw : w < 10240) (x : FVec Ideal A80 .f32) :
    pull (at1 (F := Ideal) flatV (fun _ => num w)) x = fun _ => byKey x w := by
  let j3 : U3.Idx := fun a => ⟨(![0, 0, 0] : Fin 3 → Nat) a, by revert a; decide⟩
  let j : U1.Idx := Shape.reshapeEquiv (s := U1) (s' := U3) (by decide) j3
  have e : pull (at1 (F := Ideal) flatV (fun _ => num w)) x = fun _ => multiReduction (F := Ideal) .add [1, 2] U1
      (shapeCast B80 (select (at1 (F := Ideal) flatV (fun _ => num w)) x (broadcast A80 (Scalar.ofBits .f32 0x00000000#32))) (by decide))
      0x00000000#32 (by decide) (.inl rfl) rfl j := rfl
  rw [e]
  funext _
  refine (Ideal.multiReduction_add_total _ _ _ (by decide) _ _ _).trans ?_
  have hcast : A80.ShapeCasts B80 := by decide
  have e2 : ∀ v : FVec Ideal A80 .f32, (∑ i : B80.Idx, (shapeCast B80 v hcast i : EReal)) = ∑ i : A80.Idx, (v i : EReal) := fun v =>
    Equiv.sum_comp (Shape.reshapeEquiv hcast) (fun i => (v i : EReal))
  refine (e2 _).trans ?_
  rw [Finset.sum_eq_single (pos w)]
  · rw [select_at, if_pos ((at1_iff w hw _).mpr rfl)]; rfl
  · intro i _ hi
    rw [select_at, if_neg (fun h => hi ((at1_iff w hw i).mp h))]
    exact Ideal.ofBits_zero_f32
  · intro h; exact absurd (Finset.mem_univ _) h

/-- Whether any value is over the threshold. -/
theorem liveOf_iff (v : FVec Ideal A80 .f32) : liveOf v = 1#1 ↔ ∃ n < 10240, thresh < byKey v n := by
  let j3 : U3.Idx := fun a => ⟨(![0, 0, 0] : Fin 3 → Nat) a, by revert a; decide⟩
  let j : U1.Idx := Shape.reshapeEquiv (s := U1) (s' := U3) (by decide) j3
  obtain ⟨h1, i, h2⟩ := max_all (t := B80) (axes := [1, 2]) (by decide) v (by decide) (.inl rfl) rfl (pos 0) j
  have e : liveOf v = FloatOps.cmpf (F := Ideal) (φ := .f32) .ogt (multiReduction (F := Ideal) .maximumf [1, 2] U1 (shapeCast B80 v (by decide)) 0xFF800000#32 (by decide) (.inl rfl) rfl j)
      (FloatOps.ofBits (F := Ideal) .f32 0x3E4CCCCD#32) := rfl
  rw [e, Ideal.cmpf_def, Ideal.ofBits_def, cmp_gt, ← thresh]
  constructor
  · intro h
    refine ⟨key i, key_lt i, ?_⟩
    unfold byKey
    rwa [pos_key, ← h2]
  · rintro ⟨n, -, hn⟩
    exact hn.trans_le (h1 (pos n))

end Cert.Nms
-- ==== Proof.Nms.Batch.lean ====
/-
  The kernel's batches over the extended reals, said by box number: eight picks, their validities, the decayed and marked
  values are those of the plain account of a batch; so the loop's result stands to the reference's last step as it should.
-/
module

public import proofs.«01_k».proof.Proof.Nms.Key
public import proofs.«01_k».proof.Proof.Nms.Loop

@[expose] public section

noncomputable section

namespace Cert.Nms

open Idealize.ShloMosaic

/-- The two programs' sizes. -/
def sizes : Sizes := ⟨10000, 10240, thresh, thresh_pos, by decide⟩

/-- The box of a number. -/
def boxAt (g : Geo Ideal) (n : ℕ) : Box := ⟨byKey g.x1 n, byKey g.y1 n, byKey g.x2 n, byKey g.y2 n⟩

/-- Flat indices and areas are what they should be, and every box's corners are in order. -/
structure Sound (g : Geo Ideal) : Prop where
  flat : g.flat = flatV
  area : ∀ n, byKey g.area n = (boxAt g n).area
  ordered : ∀ n, (boxAt g n).Ordered

/-- The pairwise decays of boxes in order. -/
def decays (box : ℕ → Box) (h : ∀ n, (box n).Ordered) : Decay where
  e p x := decayK (box p) (box x)
  meet j i := (box j).Meets (box i)
  nonneg _ _ := (decayK_bounds _ _).1
  le_one _ _ := (decayK_bounds _ _).2
  apart j i hm := decayK_apart (h j) (h i) hm
  apart' j i hm := decayK_apart (h i) (h j) fun hm' => hm ((Box.meets_comm _ _).mp hm')

/-- The pick at a number, its values plain. -/
def pickC (g : Geo Ideal) (w : ℕ) : Pick Ideal :=
  ⟨fun _ => num w, fun _ => byKey g.x1 w, fun _ => byKey g.y1 w, fun _ => byKey g.x2 w, fun _ => byKey g.y2 w,
    fun _ => (boxAt g w).area⟩

/-- The pick read through the masked sums is the box at the winning number. -/
theorem pickAt_eq {g : Geo Ideal} (hg : g.flat = flatV) {w : ℕ} (hw : w < 10240) : pickAt g (fun _ => num w) = pickC g w := by
  unfold pickAt
  simp only [hg, pull_at w hw]
  rfl

/-- A truth value as a one-bit array. -/
def bitv (b : Bool) : IVec U2 1 := fun _ => BitVec.ofBool b

/-- A bit is the truth value that it is 1 for. -/
theorem bit_ext {a : BitVec 1} {b : Bool} (h : a = 1#1 ↔ b = true) : a = BitVec.ofBool b := by
  cases b
  · have : ¬ a = 1#1 := fun h' => by simpa using h.mp h'
    revert this; revert a; decide
  · exact h.mpr rfl

/-- The kernel's overlap test of two picks is the boxes' meeting. -/
theorem meets_iff (g : Geo Ideal) (j i : ℕ) (k : U2.Idx) :
    meets (pickC g j) (pickC g i) k = 1#1 ↔ (boxAt g j).Meets (boxAt g i) := by
  have e : meets (pickC g j) (pickC g i) k = IntOp.andi
      (Ideal.cmp .ogt (min (boxAt g j).x2 (boxAt g i).x2 - max (boxAt g j).x1 (boxAt g i).x1) (Ideal.ofBits .f32 0x00000000#32))
      (Ideal.cmp .ogt (min (boxAt g j).y2 (boxAt g i).y2 - max (boxAt g j).y1 (boxAt g i).y1) (Ideal.ofBits .f32 0x00000000#32)) := rfl
  rw [e, and_bit, cmp_gt, cmp_gt, Ideal.ofBits_zero_f32]
  rfl

/-- A fold of ors at a place of the small array is 1 if its start or one of the terms is. -/
theorem foldl_or {α : Type} (f : α → IVec U2 1) (k : U2.Idx) (l : List α) : ∀ a : IVec U2 1,
    l.foldl (fun a i => ori a (f i)) a k = 1#1 ↔ a k = 1#1 ∨ ∃ i ∈ l, f i k = 1#1 := by
  induction l with
  | nil => intro a; simp
  | cons x l ih =>
    intro a
    rw [List.foldl_cons, ih]
    show (IntOp.ori (a k) (f x k) = 1#1 ∨ _) ↔ _
    rw [or_bit]
    simp [or_assoc]

/-- A pick is valid if the one before it was and it meets none of the earlier picks. -/
theorem validNext_iff (prev : IVec U2 1) (j : Pick Ideal) (es : List (Pick Ideal)) (k : U2.Idx) :
    validNext prev j es k = 1#1 ↔ prev k = 1#1 ∧ ∀ e ∈ es, ¬ meets j e k = 1#1 := by
  cases es with
  | nil => simp [validNext]
  | cons e es =>
    show IntOp.andi (prev k) (IntOp.xori (es.foldl (fun a i => ori a (meets j i)) (meets j e) k) 1#1) = 1#1 ↔ _
    rw [and_bit, not_bit, foldl_or]
    simp

/-- Being the first largest depends on the values below the bound only. -/
theorem IsTop.congr {n : ℕ} {f f' : ℕ → EReal} (h : ∀ j < n, f j = f' j) {w : ℕ} (hw : IsTop n f w) : IsTop n f' w := by
  refine ⟨hw.1, fun j hj => ?_⟩
  rw [← h j hj, ← h w hw.1]
  exact hw.2 j hj

/-- Different box numbers have different places. -/
theorem pos_inj {n w : ℕ} (hn : n < 10240) (hw : w < 10240) : pos n = pos w ↔ n = w :=
  ⟨fun h => by rw [← key_pos hn, h, key_pos hw], fun h => by rw [h]⟩

/-- Dropping a pick sets its value to the lowest and leaves the others. -/
theorem drop1_at {g : Geo Ideal} (hg : g.flat = flatV) (cum : FVec Ideal A80 .f32) {w n : ℕ} (hw : w < 10240) (hn : n < 10240) :
    byKey (drop1 g cum (fun _ => num w)) n = if n = w then ⊥ else byKey cum n := by
  have e : byKey (drop1 g cum (fun _ => num w)) n
      = if at1 (F := Ideal) g.flat (fun _ => num w) (pos n) = 1#1 then Ideal.ofBits .f32 0xFF800000#32 else byKey cum n := rfl
  rw [e, hg, bot_eq]
  exact if_congr ((at1_iff w hw _).trans (pos_inj hn hw)) rfl rfl

/-- The picks and their validities, from some picks already made. -/
theorem valids_picks {g : Geo Ideal} (hg : Sound g) (v : FVec Ideal A80 .f32) (n : ℕ) :
    ∀ (qs : List (ℕ × Bool)) (cum : FVec Ideal A80 .f32), Picks sizes (decays (boxAt g) hg.ordered) (byKey v) qs →
      (∀ x < 10240, byKey cum x = if x ∈ qs.map Prod.fst then ⊥ else byKey v x) →
      ∃ qs', Picks sizes (decays (boxAt g) hg.ordered) (byKey v) (qs ++ qs') ∧ qs'.length = n
        ∧ valids (qs.map fun q => pickC g q.1) (bitv (qs.all Prod.snd)) (picks g n cum)
            = qs'.map fun q => (pickC g q.1, bitv q.2) := by
  induction n with
  | zero => intro qs cum hq hc; exact ⟨[], by simpa using hq, rfl, rfl⟩
  | succ n ih =>
    intro qs cum hq hc
    obtain ⟨w, hw, hwin⟩ := winOf_top g hg.flat cum
    have hp : picks g (n + 1) cum = pickC g w :: picks g n (drop1 g cum fun _ => num w) := by
      rw [picks, hwin, pickAt_eq hg.flat hw.1]
    -- the pick's validity
    classical
    let b : Bool := decide ((∀ q ∈ qs, q.2 = true) ∧ ∀ q ∈ qs, ¬ (boxAt g w).Meets (boxAt g q.1))
    have hb : validNext (bitv (qs.all Prod.snd)) (pickC g w) (qs.map fun q => pickC g q.1) = bitv b := by
      funext k
      refine bit_ext ?_
      rw [validNext_iff]
      simp only [b, decide_eq_true_eq]
      refine and_congr ?_ ?_
      · show BitVec.ofBool (qs.all Prod.snd) = 1#1 ↔ _
        rw [bit_iff, List.all_eq_true]
      · simp only [List.mem_map, forall_exists_index, and_imp, forall_apply_eq_imp_iff₂]
        exact forall₂_congr fun q _ => not_congr (meets_iff g w q.1 k)
    have hq' : Picks sizes (decays (boxAt g) hg.ordered) (byKey v) (qs ++ [(w, b)]) :=
      .snoc qs w b hq (hw.congr hc) (by simp only [b, decide_eq_true_eq]; rfl)
    have hall : (qs ++ [(w, b)]).all Prod.snd = b := by
      rw [List.all_append]
      cases hbb : b with
      | false => simp
      | true =>
        have := (decide_eq_true_eq.mp hbb).1
        simpa [List.all_eq_true] using this
    obtain ⟨qs', h1, h2, h3⟩ := ih (qs ++ [(w, b)]) (drop1 g cum fun _ => num w) hq' fun x hx => by
      rw [drop1_at hg.flat cum hw.1 hx, hc x hx]
      by_cases hxw : x = w
      · simp [hxw]
      · simp [hxw]
    refine ⟨(w, b) :: qs', by simpa using h1, by simp [h2], ?_⟩
    rw [hp, valids, hb, List.map_cons, ← h3, hall, List.map_append]
    rfl

/-! ### A batch's end -/

variable {g : Geo Ideal} (hg : Sound g)

/-- The kernel's factor of one pick at a box is the plain one. -/
theorem decay1_at {x : ℕ} (hx : x < 10240) (q : ℕ × Bool) :
    decay1 g (pickC g q.1, bitv q.2) (pos x) = factor (decays (boxAt g) hg.ordered) q x := by
  have e : decay1 g (pickC g q.1, bitv q.2) (pos x)
      = if IntOp.andi (BitVec.ofBool q.2) (Ideal.cmp .one (g.flat (pos x)) (num q.1)) = 1#1
        then Ideal.exp (Ideal.div (Ideal.ofBits .f32 0x00000000#32
          - Ideal.div (inter (boxAt g q.1) (boxAt g x)) ((boxAt g q.1).area + byKey g.area x - inter (boxAt g q.1) (boxAt g x) + Ideal.ofBits .f32 0x3089705F#32)
          * Ideal.div (inter (boxAt g q.1) (boxAt g x)) ((boxAt g q.1).area + byKey g.area x - inter (boxAt g q.1) (boxAt g x) + Ideal.ofBits .f32 0x3089705F#32))
          (Ideal.ofBits .f32 0x3F000000#32))
        else Ideal.ofBits .f32 0x3F800000#32 := by
    unfold inter
    rw [← Ideal.ofBits_zero_f32]
    rfl
  rw [e, hg.area, one_eq, Ideal.ofBits_zero_f32]
  unfold factor
  refine if_congr ?_ rfl rfl
  rw [and_bit, bit_iff, cmp_ne, hg.flat, flatV_at, key_pos hx, Ne, num_inj]

/-- Multiplying by the picks' factors in turn, read at a box. -/
theorem foldl_at {x : ℕ} (hx : x < 10240) (qs : List (ℕ × Bool)) : ∀ a : FVec Ideal A80 .f32,
    (qs.map fun q => (pickC g q.1, bitv q.2)).foldl (fun a q => mulf a (decay1 g q)) a (pos x)
      = qs.foldl (fun a q => a * factor (decays (boxAt g) hg.ordered) q x) (a (pos x)) := by
  induction qs with
  | nil => intro a; rfl
  | cons q qs ih =>
    intro a
    rw [List.map_cons, List.foldl_cons, List.foldl_cons, ih, ← decay1_at hg hx q]
    rfl

/-- The same fold of ors on the large array. -/
theorem foldl_or80 {α : Type} (f : α → IVec A80 1) (k : A80.Idx) (l : List α) : ∀ a : IVec A80 1,
    l.foldl (fun a i => ori a (f i)) a k = 1#1 ↔ a k = 1#1 ∨ ∃ i ∈ l, f i k = 1#1 := by
  induction l with
  | nil => intro a; simp
  | cons x l ih =>
    intro a
    rw [List.foldl_cons, ih]
    show (IntOp.ori (a k) (f x k) = 1#1 ∨ _) ↔ _
    rw [or_bit]
    simp [or_assoc]

/-- A place is kept if one of the picks keeps it. -/
theorem keeps_iff (l : List (Pick Ideal × IVec U2 1)) (i : A80.Idx) :
    keeps g l i = 1#1 ↔ ∃ q ∈ l, keep1 g q i = 1#1 := by
  cases l with
  | nil =>
    simp only [List.not_mem_nil, false_and, exists_false, iff_false]
    show ¬ (0#1 : BitVec 1) = 1#1
    decide
  | cons q l =>
    rw [keeps, foldl_or80]
    simp

include hg in
/-- The kept boxes are the valid picks. -/
theorem keeps_at {x : ℕ} (hx : x < 10240) (qs : List (ℕ × Bool)) :
    keeps g (qs.map fun q => (pickC g q.1, bitv q.2)) (pos x) = 1#1 ↔ Marked qs x := by
  rw [keeps_iff]
  simp only [List.mem_map, exists_exists_and_eq_and, Marked]
  refine exists_congr fun q => and_congr_right fun _ => ?_
  have e : keep1 g (pickC g q.1, bitv q.2) (pos x)
      = IntOp.andi (BitVec.ofBool q.2) (Ideal.cmp .oeq (g.flat (pos x)) (num q.1)) := rfl
  rw [e, and_bit, bit_iff, cmp_eq, hg.flat, flatV_at, key_pos hx, num_inj, eq_comm (a := x)]

/-- A batch's last array, read at a box, is the plain outcome of its picks. -/
theorem settle_at (v : FVec Ideal A80 .f32) {x : ℕ} (hx : x < 10240) (qs : List (ℕ × Bool)) :
    byKey (settle g v (qs.map fun q => (pickC g q.1, bitv q.2))) x = outcome sizes (decays (boxAt g) hg.ordered) (byKey v) qs x := by
  have hnv : (if Ideal.cmp .ogt (v (pos x)) (Ideal.ofBits .f32 0x00000000#32) = 1#1
      then (qs.map fun q => (pickC g q.1, bitv q.2)).foldl (fun a q => mulf a (decay1 g q)) v (pos x) else v (pos x))
      = decayed (decays (boxAt g) hg.ordered) (byKey v) qs x := by
    rw [foldl_at hg hx, Ideal.ofBits_zero_f32]
    exact if_congr (cmp_gt _ _) rfl rfl
  have e : byKey (settle g v (qs.map fun q => (pickC g q.1, bitv q.2))) x
      = have nv : EReal := (if Ideal.cmp .ogt (v (pos x)) (Ideal.ofBits .f32 0x00000000#32) = 1#1
          then (qs.map fun q => (pickC g q.1, bitv q.2)).foldl (fun a q => mulf a (decay1 g q)) v (pos x) else v (pos x))
        if IntOp.andi (keeps g (qs.map fun q => (pickC g q.1, bitv q.2)) (pos x)) (Ideal.cmp .ogt nv (Ideal.ofBits .f32 0x3E4CCCCD#32)) = 1#1
        then Ideal.ofBits .f32 0x00000000#32 - nv else nv := rfl
  rw [e]
  simp only [hnv]
  unfold outcome
  rw [Ideal.ofBits_zero_f32, zero_sub]
  classical
  refine if_congr ?_ rfl rfl
  rw [and_bit, keeps_at hg hx, cmp_gt]
  rfl

/-- One batch of the kernel is a batch. -/
theorem batch_step (v : FVec Ideal A80 .f32) : Batch sizes (decays (boxAt g) hg.ordered) (byKey v) (byKey (batch g v)) := by
  obtain ⟨qs, h1, h2, h3⟩ := valids_picks hg v 8 [] v .nil (fun x _ => by simp)
  refine ⟨qs, by simpa using h1, h2, fun x hx => ?_⟩
  have e : batch g v = settle g v (qs.map fun q => (pickC g q.1, bitv q.2)) := by
    unfold batch finish
    rw [← h3]
    rfl
  rw [e]
  exact settle_at hg v hx qs

/-! ### The loop -/

/-- The loop goes on exactly while a value is over the threshold. -/
theorem live_iff (v : FVec Ideal A80 .f32) : liveOf v = 1#1 ↔ Live sizes (byKey v) := liveOf_iff v

variable (r : Run sizes (decays (boxAt g) hg.ordered))

/-- One pass of the loop takes the reference some steps further, at least one if a value is over the threshold. -/
theorem trip_at {V : FVec Ideal A80 .f32} {n : ℕ} (h : At r n (byKey V)) :
    ∃ n', n ≤ n' ∧ At r n' (byKey (trip g V)) ∧ (Live sizes (byKey V) → n < n') := by
  obtain ⟨n1, h1, hA, hl⟩ := (batch_step hg V).at h
  obtain ⟨n2, h2, hB, -⟩ := (batch_step hg (batch g V)).at hA
  exact ⟨n2, h1.trans h2, hB, fun h => (hl h).trans_le h2⟩

/-- With passes enough, the loop ends where no value is over the threshold. -/
theorem iter_at (k : ℕ) : ∀ (V : FVec Ideal A80 .f32) (n : ℕ), At r n (byKey V) → 10000 < n + k →
    ∃ n', At r n' (byKey (iter g k (liveOf V) V)) ∧ ¬ Live sizes (byKey (iter g k (liveOf V) V)) := by
  induction k with
  | zero =>
    intro V n h hn
    have : n ≤ 10000 := h.le
    omega
  | succ k ih =>
    intro V n h hn
    rw [iter]
    by_cases hl : liveOf V = 1#1
    · rw [if_pos hl]
      obtain ⟨n', -, hA, hgo⟩ := trip_at hg r h
      have := hgo ((live_iff V).mp hl)
      exact ih _ n' hA (by omega)
    · rw [if_neg hl]
      exact ⟨n, h, fun h' => hl ((live_iff V).mpr h')⟩

/-- The starting values stand to the reference's start as they should. -/
theorem start_at (s : FVec Ideal A80 .f32) (hs : ∀ x < 10000, r.s 0 x = byKey s x) (hp : ∀ x, 10000 ≤ x → x < 10240 → byKey s x ≤ thresh) :
    At r 0 (byKey (startV s)) := by
  have e : ∀ x, byKey (startV s) x = if thresh < byKey s x then byKey s x else 0 := fun x => by
    have e : byKey (startV s) x
        = if Ideal.cmp .ogt (byKey s x) (Ideal.ofBits .f32 0x3E4CCCCD#32) = 1#1 then byKey s x else Ideal.ofBits .f32 0x00000000#32 := rfl
    rw [e, Ideal.ofBits_zero_f32]
    exact if_congr (cmp_gt _ _) rfl rfl
  refine ⟨⟨fun x hx => ?_, fun x hx hx2 => ?_, by rw [r.start]; exact Finset.empty_subset _⟩, by rw [r.start]; rfl⟩
  · right
    have hx' : x < 10000 := hx
    rw [e, hs x hx', r.start]
    by_cases h : thresh < byKey s x
    · left; rw [if_pos h]; exact ⟨by simp, h, rfl⟩
    · right; rw [if_neg h]; exact ⟨by simp, not_lt.mp h, le_rfl, thresh_pos.le⟩
  · rw [e, if_neg (not_lt.mpr (hp x hx hx2))]
    exact ⟨le_rfl, thresh_pos.le⟩

/-- The kernel's result against the reference's last scores. -/
theorem result_at (x1 y1 x2 y2 s : FVec Ideal A80 .f32) (hgo : g = geoOf x1 y1 x2 y2)
    (hs : ∀ x < 10000, r.s 0 x = byKey s x) (hp : ∀ x, 10000 ≤ x → x < 10240 → byKey s x ≤ thresh) (x : ℕ) (hx : x < 10000) :
    (byKey (result x1 y1 x2 y2 s) x = -r.s 10000 x ∧ thresh < r.s 10000 x)
      ∨ (r.s 10000 x ≤ thresh ∧ 0 ≤ byKey (result x1 y1 x2 y2 s) x ∧ byKey (result x1 y1 x2 y2 s) x ≤ thresh) := by
  obtain ⟨n, -, hA, -⟩ := trip_at hg r (start_at hg r s hs hp)
  obtain ⟨n', hB, hl⟩ := iter_at hg r 10239 _ n hA (by omega)
  have e : result x1 y1 x2 y2 s = iter g 10239 (liveOf (trip g (startV s))) (trip g (startV s)) := by
    unfold result
    rw [← hgo, show (10240 : ℕ) = 10239 + 1 from rfl, iter, if_pos rfl]
  rw [e]
  have hn : n' ≤ 10000 := hB.le
  have := settled r hB hl (10000 - n') x hx
  rw [Nat.add_sub_cancel' hn] at this
  exact this

end Cert.Nms
-- ==== Proof.Nms.Layout.lean ====
/-
  The two layouts: a column of 10000 numbers followed by zeros over 80 rows and 128 lanes, and back.
-/
module

public import proofs.«01_k».proof.Proof.Gen.KernelIdeal.Launch
public import proofs.«01_k».proof.Proof.Nms.Batch
public import Idealize.ShloMosaic.Lib.DynamicIndex
public import Idealize.ShloMosaic.Lib.Routing.Ops
public import Idealize.ShloMosaic.Lib.Routing.OpsOne

@[expose] public section

set_option maxRecDepth 16384

noncomputable section

namespace Cert.KernelIdeal.Run

open Cert.KernelIdeal.Gen Cert.Nms
open Idealize.ShloMosaic Idealize.ShloMosaic.ValueIdx

/-! ### The layout -/

/-- The two inputs, one below the other. -/
abbrev joined (a b : FVec Ideal S5000x14 .f32) : FVec Ideal S10000x14 .f32 :=
  concatenate S10000x14 0 [⟨S5000x14, a⟩, ⟨S5000x14, b⟩] concatenates_S5000x14_S5000x14_S10000x14_d0

/-- A column of numbers followed by zeros. -/
def padded (v : FVec Ideal S10000 .f32) : FVec Ideal S10240 .f32 :=
  pad S10240 ![0] ![240] ![0] v (sitofp .f32 (constantI S_ 32 0#32)) pads_S10000_S10240_02400 h_S_

/-- A table of indices, each moved up by 80 where it is negative. -/
def counted (t : IVec S80 32) : IVec S80x1 32 :=
  broadcastInDim S80x1 ![0] bcast_S80_S80x1_0
    (select (cmpi .slt t (broadcastInDim S80 ![] bcast_S_S80 (constantI S_ 32 0#32))) (addi t (broadcastInDim S80 ![] bcast_S_S80 (constantI S_ 32 80#32))) t)

/-- A column of numbers laid out over 80 rows and 128 lanes, the rows in the order the table gives. -/
def laid (t : IVec S80 32) (v : FVec Ideal S10000 .f32) : FVec Ideal S80x128 .f32 :=
  transpose S80x128 [1, 0] (Host.gather gather_S128x80_S80x1_S128x80_0_1_n_n_1_1_1281 (shapeCast S128x80 (padded v) shapeCasts_S10240_S128x80) (counted t)) transposes_S128x80_S80x128_1_0

/-- The boxes' corners. -/
abbrev corners (x : FVec Ideal S10000x14 .f32) : FVec Ideal S10000x4 .f32 := extractStridedSlice S10000x4 ![0, 2] x slices_S10000x14_S10000x4_0_2

/-- The gather down the lanes' own axis reads, at a lane and a row, the lane's number the row's index names. -/
theorem gather_at (x : FVec Ideal S128x80 .f32) (idx : IVec S80x1 32) (l : Fin 128) (r p : Fin 80) (h : idx (ix2 r (0 : Fin 1)) = BitVec.ofNat 32 p.val) :
    Host.gather gather_S128x80_S80x1_S128x80_0_1_n_n_1_1_1281 x idx (ix2 l r) = x (ix2 l p) := by
  unfold Host.gather
  refine congrArg x (funext fun a => Fin.ext ?_)
  match a with
  | ⟨0, _⟩ =>
    show GatherDims.start _ (ix2 l r) idx 0 + GatherDims.batchCoord _ (ix2 l r) 0 + GatherDims.offCoord _ (ix2 l r) 0 = l.val
    rw [GatherDims.batchCoord_eq_zero _ _ _ List.not_mem_nil]
    unfold GatherDims.start GatherDims.offCoord
    rw [dif_neg (by decide), dif_pos (by decide)]
    exact Nat.zero_add _
  | ⟨1, _⟩ =>
    show GatherDims.start _ (ix2 l r) idx 1 + GatherDims.batchCoord _ (ix2 l r) 1 + GatherDims.offCoord _ (ix2 l r) 1 = p.val
    rw [GatherDims.batchCoord_eq_zero _ _ _ List.not_mem_nil, GatherDims.offCoord_eq_zero _ _ _ (by decide)]
    unfold GatherDims.start
    rw [dif_pos (by decide)]
    refine (congrArg (fun j => min (idx j).toInt.toNat (80 - 1)) (show _ = ix2 r (0 : Fin 1) from funext fun b => ?_)).trans ?_
    · match b with
      | ⟨0, _⟩ => rfl
      | ⟨1, _⟩ => rfl
    · have hp := p.isLt
      show min (idx (ix2 r (0 : Fin 1))).toInt.toNat 79 = p.val
      rw [h, StableHlo.Predicate.toInt_ofNat_small _ (by omega)]
      omega

/-- An index that is not negative is not moved. -/
theorem counted_at (t : IVec S80 32) (r p : Fin 80) (h : t (ix1 r) = BitVec.ofNat 32 p.val) : counted t (ix2 r (0 : Fin 1)) = BitVec.ofNat 32 p.val := by
  have hp := p.isLt
  have e : ∀ j : S80.Idx, j = ix1 r → select (cmpi .slt t (constantI S80 32 0#32)) (addi t (constantI S80 32 80#32)) t j = BitVec.ofNat 32 p.val := by
    rintro j rfl
    rw [select_slt_zero_of_nonneg _ _ _ _ (by rw [h, StableHlo.Predicate.toInt_ofNat_small _ (by omega)]; omega), h]
  refine e _ (funext fun a => ?_)
  obtain rfl : a = 0 := Subsingleton.elim _ _
  rfl

/-- The padded array holds the array, then zeros. -/
theorem padded_at (v : FVec Ideal S10000 .f32) (p : Fin 10240) :
    padded v (ix1 p) = if h : p.val < 10000 then v (ix1 ⟨p.val, h⟩) else 0 := by
  unfold padded
  rw [Routing.pad1]
  by_cases h : p.val < 10000
  · rw [dif_pos ⟨Nat.zero_le _, h⟩, dif_pos h]; rfl
  · rw [dif_neg fun e => h e.2, dif_neg h]
    show (((0#32 : BitVec 32).toInt : ℝ) : EReal) = 0
    simp

/-- The two axes exchanged. -/
theorem flip_at (x : FVec Ideal S128x80 .f32) (r : Fin 80) (l : Fin 128) : transpose S80x128 [1, 0] x transposes_S128x80_S80x128_1_0 (ix2 r l) = x (ix2 l r) :=
  congrArg x (funext fun a => match a with | ⟨0, _⟩ => rfl | ⟨1, _⟩ => rfl)

/-- A transposed entry. -/
theorem flop_at (x : FVec Ideal S80x128 .f32) (r : Fin 80) (l : Fin 128) : transpose S128x80 [1, 0] x transposes_S80x128_S128x80_1_0 (ix2 l r) = x (ix2 r l) :=
  congrArg x (funext fun a => match a with | ⟨0, _⟩ => rfl | ⟨1, _⟩ => rfl)

/-- A box's row, -/
abbrev rowOf (n : ℕ) : Fin 80 := ⟨8 * (n % 80 % 10) + n % 80 / 10, by omega⟩

/-- its lane. -/
abbrev laneOf (n : ℕ) : Fin 128 := ⟨n / 80 % 128, by omega⟩

/-- A number's place by its row and its lane. -/
theorem pos_eq (n : ℕ) : pos n = ix2 (rowOf n) (laneOf n) := ext2 rfl rfl

/-- A number is its lane times 80 and its remainder. -/
theorem line_eq {n : ℕ} (hn : n < 10240) : n = n / 80 % 128 * 80 + n % 80 := by
  have e4 : n / 80 % 128 = n / 80 := by omega
  rw [e4]; omega

/-- A column laid out by the rows' table, read by box number: the column, then zeros. -/
theorem laid_at (t : IVec S80 32) (ht : ∀ r : Fin 80, t (ix1 r) = BitVec.ofNat 32 (r.val % 8 * 10 + r.val / 8)) (v : FVec Ideal S10000 .f32) (n : ℕ) (hn : n < 10240) :
    byKey (laid t v) n = if h : n < 10000 then v (ix1 ⟨n, h⟩) else 0 := by
  have e1 : (8 * (n % 80 % 10) + n % 80 / 10) % 8 = n % 80 / 10 := by omega
  have e2 : (8 * (n % 80 % 10) + n % 80 / 10) / 8 = n % 80 % 10 := by omega
  have e3 : n % 80 / 10 * 10 + n % 80 % 10 = n % 80 := by omega
  unfold byKey laid
  rw [pos_eq, flip_at,
    gather_at _ _ _ _ ⟨n % 80, by omega⟩ (counted_at t _ _ ((ht _).trans (congrArg (BitVec.ofNat 32) (by show (8 * (n % 80 % 10) + n % 80 / 10) % 8 * 10 + (8 * (n % 80 % 10) + n % 80 / 10) / 8 = n % 80; rw [e1, e2, e3])))),
    Routing.cast12 _ _ _ _ ⟨n, hn⟩ (line_eq hn), padded_at]

/-- An array over 80 rows and 128 lanes, its rows taken in the order the table gives, as a column of 10000 numbers. -/
def unlaid (t : IVec S80 32) (y : FVec Ideal S80x128 .f32) : FVec Ideal S10000 .f32 :=
  extractStridedSlice S10000 ![0] (shapeCast S10240 (transpose S128x80 [1, 0] (Host.gather gather_S80x128_S80x1_S80x128_1_0_n_n_0_1_1128 y (counted t)) transposes_S80x128_S128x80_1_0) shapeCasts_S128x80_S10240) slices_S10240_S10000_0

/-- By the other table it is the array by box number. -/
theorem unlaid_at (t : IVec S80 32) (ht : ∀ p : Fin 80, t (ix1 p) = BitVec.ofNat 32 (8 * (p.val % 10) + p.val / 10)) (y : FVec Ideal S80x128 .f32) (n : ℕ) (hn : n < 10000) :
    unlaid t y (ix1 ⟨n, hn⟩) = byKey y n := by
  unfold unlaid byKey
  rw [Routing.slice1 0 _ _ _ (by show 0 + n < 10240; omega), Routing.cast21 _ _ (laneOf n) ⟨n % 80, by omega⟩ _ ((Nat.zero_add n).trans (line_eq (by omega))), flop_at,
    Routing.gather_row _ rfl rfl rfl rfl rfl _ _ _ _ (rowOf n) (counted_at t _ _ (ht _)) (by omega), pos_eq]

/-- The corner columns, -/
theorem corner_at (x : FVec Ideal S10000x14 .f32) (j : ℕ) (hj : 2 + j < 14) (h : S10000x4.Slices ![0, j] S10000x1) (n : ℕ) (hn : n < 10000) :
    shapeCast S10000 (extractStridedSlice S10000x1 ![0, j] (corners x) h) shapeCasts_S10000x1_S10000 (ix1 ⟨n, hn⟩) = x (ix2 ⟨n, hn⟩ ⟨2 + j, hj⟩) := by
  rw [Routing.cast21 _ _ (⟨n, hn⟩ : Fin 10000) (0 : Fin 1) ⟨n, hn⟩ (Nat.mul_one n).symm]
  refine congrArg x (funext fun a => Fin.ext ?_)
  match a with
  | ⟨0, _⟩ => show 0 + (0 + n) = n; omega
  | ⟨1, _⟩ => rfl

/-- and the score column. -/
theorem score_at (x : FVec Ideal S10000x14 .f32) (n : ℕ) (hn : n < 10000) :
    shapeCast S10000 (extractStridedSlice S10000x1 ![0, 13] x slices_S10000x14_S10000x1_0_13) shapeCasts_S10000x1_S10000 (ix1 ⟨n, hn⟩) = x (ix2 ⟨n, hn⟩ 13) := by
  rw [Routing.cast21 _ _ (⟨n, hn⟩ : Fin 10000) (0 : Fin 1) ⟨n, hn⟩ (Nat.mul_one n).symm]
  refine congrArg x (funext fun a => Fin.ext ?_)
  match a with
  | ⟨0, _⟩ => show 0 + n = n; omega
  | ⟨1, _⟩ => rfl

/-- The scatter of a column of numbers to the last column. -/
theorem last_at (x : FVec Ideal S10000x14 .f32) (idx : IVec S1 32) (v : FVec Ideal S10000 .f32) (h : (idx (ix1 0)).toInt = 13) (n : Fin 10000) (k : Fin 14) :
    Host.scatter scatter_S10000x14_S1_S10000_0_1_1_0 (fun _ b => b) x idx v (ix2 n k) = if k = 13 then v (ix1 n) else x (ix2 n k) := by
  have land := fun w' w e => Routing.lands_col scatter_S10000x14_S1_S10000_0_1_1_0 rfl rfl idx 13 h w' w e
  split
  · rename_i e
    refine Routing.scatter_set_hit _ x idx v _ _ (fun j hj => ?_) (ix1 n) ((land _ _ _).2 ⟨rfl, e⟩)
    rw [eq_ix1 j] at hj ⊢
    exact congrArg (fun t => v (ix1 t)) ((land _ _ _).1 hj).1
  · rename_i e
    refine Routing.scatter_set_miss _ x idx v _ fun j hj => e ?_
    rw [eq_ix1 j] at hj
    exact ((land _ _ _).1 hj).2

/-- The tables' entries. -/
theorem row_table : ∀ r : Fin 80, lit0 r = BitVec.ofNat 32 (r.val % 8 * 10 + r.val / 8) := by decide +kernel
/-- The five tables of row numbers are one table. -/
theorem same_tables : ∀ r : Fin 80, lit1 r = lit0 r ∧ lit2 r = lit0 r ∧ lit3 r = lit0 r ∧ lit4 r = lit0 r := by decide +kernel
/-- The table that puts the rows back. -/
theorem back_table : ∀ p : Fin 80, lit5 p = BitVec.ofNat 32 (8 * (p.val % 10) + p.val / 10) := by decide +kernel

/-- A table's entry by its index. -/
theorem table_at (f : Fin 80 → BitVec 32) (r : Fin 80) : f (S80.rowMajor (ix1 r)) = f r :=
  congrArg f (Fin.ext (Shape.rowMajor_val_one (ix1 r)))

end Cert.KernelIdeal.Run
-- ==== Proof.Nms.Host.lean ====
/-
  What the operations before the kernel lay out for it, and what the operations after it make of its result.
-/
module

public import proofs.«01_k».proof.Proof.Nms.IdealRun
public import proofs.«01_k».proof.Proof.Nms.Layout
public import Idealize.ShloMosaic.Lib.StableHlo.ReadAt

@[expose] public section

set_option maxRecDepth 16384

noncomputable section

namespace Cert.KernelIdeal.Run

open Cert.KernelIdeal.Gen Cert.Nms
open Idealize.ShloMosaic Idealize.ShloMosaic.TcCoe Idealize.ShloMosaic.Tactic
open Idealize.ShloMosaic.StableHlo (after)

variable (V : Valuation τ sig (Elt Ideal))

/-- The inputs as the operations find them, joined. -/
abbrev joinedIn : FVec Ideal S10000x14 .f32 := joined (V (Proc.devRef .tc main_arg0)) (V (Proc.devRef .tc main_arg1))

set_option maxHeartbeats 4000000 in
/-- The host code before the launch lays out the first corners' x. -/
theorem x1_of : after hostOps0 V (Proc.devRef .tc main_call0_v15)
    = laid (fun i => lit0 (S80.rowMajor i)) (shapeCast S10000 (extractStridedSlice S10000x1 ![0, 0] (corners (joinedIn V)) slices_S10000x4_S10000x1_0_0) shapeCasts_S10000x1_S10000) := by
  after_reads_simp
  rfl

set_option maxHeartbeats 4000000 in
/-- The host code before the launch lays out the first corners' y. -/
theorem y1_of : after hostOps0 V (Proc.devRef .tc main_call0_v27)
    = laid (fun i => lit1 (S80.rowMajor i)) (shapeCast S10000 (extractStridedSlice S10000x1 ![0, 1] (corners (joinedIn V)) slices_S10000x4_S10000x1_0_1) shapeCasts_S10000x1_S10000) := by
  after_reads_simp
  rfl

set_option maxHeartbeats 4000000 in
/-- The host code before the launch lays out the second corners' x. -/
theorem x2_of : after hostOps0 V (Proc.devRef .tc main_call0_v39)
    = laid (fun i => lit2 (S80.rowMajor i)) (shapeCast S10000 (extractStridedSlice S10000x1 ![0, 2] (corners (joinedIn V)) slices_S10000x4_S10000x1_0_2) shapeCasts_S10000x1_S10000) := by
  after_reads_simp
  rfl

set_option maxHeartbeats 4000000 in
/-- The host code before the launch lays out the second corners' y. -/
theorem y2_of : after hostOps0 V (Proc.devRef .tc main_call0_v51)
    = laid (fun i => lit3 (S80.rowMajor i)) (shapeCast S10000 (extractStridedSlice S10000x1 ![0, 3] (corners (joinedIn V)) slices_S10000x4_S10000x1_0_3) shapeCasts_S10000x1_S10000) := by
  after_reads_simp
  rfl

set_option maxHeartbeats 4000000 in
/-- The host code before the launch lays out the scores. -/
theorem score_of : after hostOps0 V (Proc.devRef .tc main_call0_v61)
    = laid (fun i => lit4 (S80.rowMajor i)) (shapeCast S10000 (extractStridedSlice S10000x1 ![0, 13] (joinedIn V) slices_S10000x14_S10000x1_0_13) shapeCasts_S10000x1_S10000) := by
  after_reads_simp
  rfl

set_option maxHeartbeats 4000000 in
/-- The host code before the launch joins the two inputs. -/
theorem joined_of : after hostOps0 V (Proc.devRef .tc main_call0_v0) = joinedIn V := by
  after_reads_simp
  rfl

set_option maxHeartbeats 4000000 in
/-- The table by which the rows are put back. -/
theorem back_of : after hostOps0 V (Proc.devRef .tc main_call0_c_4) = fun i => lit5 (S80.rowMajor i) := by
  after_reads_simp
  rfl

/-- What the operations after the kernel make of a box's row: kept where the kernel's value is low enough, the score
    column set to the value negated, and zeros elsewhere. -/
theorem final_at (ht : V (Proc.devRef .tc main_call0_c_4) = fun i => lit5 (S80.rowMajor i)) (n : ℕ) (hn : n < 10000) (k : Fin 14) :
    (after hostOps1 V (Proc.devRef .tc main_v0) : FVec Ideal S10000x14 .f32) (ValueIdx.ix2 ⟨n, hn⟩ k)
      = if byKey (V (Proc.devRef .tc main_call0_v62)) n < -thresh
          then (if k = 13 then -byKey (V (Proc.devRef .tc main_call0_v62)) n else (V (Proc.devRef .tc main_call0_v0) : FVec Ideal S10000x14 .f32) (ValueIdx.ix2 ⟨n, hn⟩ k)) else 0 := by
  have hu := unlaid_at (V (Proc.devRef .tc main_call0_c_4)) (fun p => by rw [ht]; exact (table_at lit5 p).trans (back_table p)) (V (Proc.devRef .tc main_call0_v62)) n hn
  after_reads_simp
  simp -implicitDefEqProofs only [StableHlo.TRef.toBuf, StableHlo.TRef.ofBuf, cast_cast, cast_eq]
  refine (select_at _ _ _ _).trans (if_congr ?_ ?_ ?_)
  · refine Iff.trans ?_ (cmp_lt _ _)
    rw [← hu, ← neg_thresh_eq]
    refine Iff.of_eq (congrArg (fun i => Ideal.cmp .olt (unlaid (V (Proc.devRef .tc main_call0_c_4)) (V (Proc.devRef .tc main_call0_v62)) i) (Ideal.ofBits .f32 0xBE4CCCCD#32) = 1#1) (funext fun a => ?_))
    obtain rfl : a = 0 := Subsingleton.elim _ _
    rfl
  · refine (last_at _ _ _ rfl _ _).trans (if_congr Iff.rfl ?_ rfl)
    rw [← hu]
    rfl
  · exact Ideal.ofBits_zero_f32

end Cert.KernelIdeal.Run
-- ==== Proof.Nms.Order.lean ====
/-
  The precondition, read at a box: the corners of every box are in order, and so are those of the boxes joined and
  followed by zeros.
-/
module

public import proofs.«01_k».proof.Pre_boxes_ordered
public import proofs.«01_k».proof.Proof.Nms.Layout
public import Idealize.ShloMosaic.Lib.Pipeline.Value

@[expose] public section

set_option maxRecDepth 16384

noncomputable section

namespace Cert.KernelIdeal.Run

open Cert.KernelIdeal.Gen Cert.Nms
open Idealize.ShloMosaic Idealize.ShloMosaic.ValueIdx

/-- A row of the joined inputs is a row of one of them. -/
theorem joined_row (a b : FVec Ideal S5000x14 .f32) (n : ℕ) (hn : n < 10000) :
    ∃ x : FVec Ideal S5000x14 .f32, (x = a ∨ x = b) ∧ ∃ r : Fin 5000, ∀ k : Fin 14, joined a b (ix2 ⟨n, hn⟩ k) = x (ix2 r k) := by
  by_cases h : n < 5000
  · refine ⟨a, .inl rfl, ⟨n, h⟩, fun k => concatenate_pair_apply_left (t := S10000x14) (s₁ := S5000x14) (s₂ := S5000x14) 0 a b concatenates_S5000x14_S5000x14_S10000x14_d0 (ix2 ⟨n, hn⟩ k) rfl (ix2 ⟨n, h⟩ k) fun d => ?_⟩
    match d with
    | ⟨0, _⟩ => rfl
    | ⟨1, _⟩ => rfl
  · refine ⟨b, .inr rfl, ⟨n - 5000, by omega⟩, fun k => concatenate_pair_apply_right (t := S10000x14) (s₁ := S5000x14) (s₂ := S5000x14) 0 a b concatenates_S5000x14_S5000x14_S10000x14_d0 (ix2 ⟨n, hn⟩ k) rfl rfl (ix2 ⟨n - 5000, by omega⟩ k) (fun d hd => ?_) ?_⟩
    · match d with
      | ⟨0, _⟩ => exact absurd rfl hd
      | ⟨1, _⟩ => rfl
    · show n - 5000 + 5000 = n; omega

/-- A column of one input, read at a row. -/
theorem cut_at (x : FVec Ideal S5000x14 .f32) (k : ℕ) (hk : k < 14) (h : Cert.Pre_boxes_ordered.S5000x14.Slices ![0, k] Cert.Pre_boxes_ordered.S5000x1) (h' : Cert.Pre_boxes_ordered.S5000x1.ShapeCasts Cert.Pre_boxes_ordered.S5000) (r : Fin 5000) :
    shapeCast Cert.Pre_boxes_ordered.S5000 (extractStridedSlice Cert.Pre_boxes_ordered.S5000x1 ![0, k] x h) h' (ix1 r) = x (ix2 r ⟨k, hk⟩) := by
  rw [Routing.cast21 _ _ r (0 : Fin 1) r (Nat.mul_one _).symm]
  refine congrArg x (funext fun a => Fin.ext ?_)
  match a with
  | ⟨0, _⟩ => show 0 + r.val = r.val; omega
  | ⟨1, _⟩ => rfl

/-- One comparison of the precondition, read at a row. -/
theorem cut_le (x : FVec Ideal S5000x14 .f32) (j k : ℕ) (hj : j < 14) (hk : k < 14) (h1 : Cert.Pre_boxes_ordered.S5000x14.Slices ![0, j] Cert.Pre_boxes_ordered.S5000x1)
    (h2 : Cert.Pre_boxes_ordered.S5000x14.Slices ![0, k] Cert.Pre_boxes_ordered.S5000x1) (h' : Cert.Pre_boxes_ordered.S5000x1.ShapeCasts Cert.Pre_boxes_ordered.S5000) (r : Fin 5000)
    (h : cmpf (F := Ideal) (φ := .f32) .ole (shapeCast Cert.Pre_boxes_ordered.S5000 (extractStridedSlice Cert.Pre_boxes_ordered.S5000x1 ![0, j] x h1) h')
      (shapeCast Cert.Pre_boxes_ordered.S5000 (extractStridedSlice Cert.Pre_boxes_ordered.S5000x1 ![0, k] x h2) h') (ix1 r) = 1#1) :
    x (ix2 r ⟨j, hj⟩) ≤ x (ix2 r ⟨k, hk⟩) := by
  rw [← cut_at x j hj h1 h', ← cut_at x k hk h2 h']
  exact (cmp_le _ _).1 h

variable [Cert.Pre_boxes_ordered.Facts]

/-- The corners of a row in order. -/
def InOrder (x : FVec Ideal S5000x14 .f32) (r : Fin 5000) : Prop := x (ix2 r 2) ≤ x (ix2 r 4) ∧ x (ix2 r 3) ≤ x (ix2 r 5)

/-- Under the precondition every row of either input has its corners in order. -/
theorem in_order (a b : FVec Ideal S5000x14 .f32) (h : Cert.Pre_boxes_ordered.fn (F := Ideal) a b = fun _ => 1#1) (r : Fin 5000) :
    InOrder a r ∧ InOrder b r := by
  have h' := congrFun h (ix1 r)
  unfold Cert.Pre_boxes_ordered.fn at h'
  obtain ⟨ha, hb⟩ := (and_bit _ _).1 h'
  obtain ⟨a1, a2⟩ := (and_bit _ _).1 ha
  obtain ⟨b1, b2⟩ := (and_bit _ _).1 hb
  exact ⟨⟨cut_le a 2 4 (by omega) (by omega) _ _ _ r a1, cut_le a 3 5 (by omega) (by omega) _ _ _ r a2⟩,
    cut_le b 2 4 (by omega) (by omega) _ _ _ r b1, cut_le b 3 5 (by omega) (by omega) _ _ _ r b2⟩

/-- Box `n` of the joined inputs has its corners in order. -/
theorem joined_ordered (a b : FVec Ideal S5000x14 .f32) (h : Cert.Pre_boxes_ordered.fn (F := Ideal) a b = fun _ => 1#1) (n : ℕ) (hn : n < 10000) :
    (⟨joined a b (ix2 ⟨n, hn⟩ 2), joined a b (ix2 ⟨n, hn⟩ 3), joined a b (ix2 ⟨n, hn⟩ 4), joined a b (ix2 ⟨n, hn⟩ 5)⟩ : Box).Ordered := by
  obtain ⟨x, hx, r, e⟩ := joined_row a b n hn
  have ho : InOrder x r := by
    rcases hx with rfl | rfl
    · exact (in_order _ _ h r).1
    · exact (in_order _ _ h r).2
  rw [e, e, e, e]
  exact ho

end Cert.KernelIdeal.Run
-- ==== Proof.Nms.RefVal.lean ====
/-
  What the reference's own operations compute, read at a box number.
-/
module

public import proofs.«01_k».proof.Proof.Nms.RefRun
public import proofs.«01_k».proof.Proof.Nms.Key
public import Idealize.ShloMosaic.Lib.DynamicIndex
public import Idealize.ShloMosaic.Lib.StableHlo.ReadAt
public import Idealize.ShloMosaic.Lib.Routing.OpsOne

@[expose] public section

set_option maxRecDepth 4000

noncomputable section

namespace Cert.ReferenceIdeal.Run

open Idealize.ShloMosaic Idealize.ShloMosaic.TcCoe Idealize.ShloMosaic.StableHlo
open Cert.ReferenceIdeal.Gen Cert.Nms

/-! ## Places -/

/-- The place of box `n` in a list of the boxes. -/
def spot (n : ℕ) : S10000.Idx := ValueIdx.ix1 ⟨n % 10000, Nat.mod_lt _ (by decide)⟩

/-- The place of coordinate `k` of box `n`. -/
def cell (n : ℕ) (k : Fin 4) : S10000x4.Idx := Idealize.ShloMosaic.ix2 ⟨n % 10000, Nat.mod_lt _ (by decide)⟩ k

/-- An index is the one at its number. -/
theorem spot_of (i : S10000.Idx) : i = spot (i 0).val := by
  refine (ValueIdx.eq_ix1 i).trans (congrArg ValueIdx.ix1 (Fin.ext ?_))
  exact (Nat.mod_eq_of_lt (i 0).isLt).symm

/-! ## The search -/

/-- The reference's choice between two candidates, the one with the larger number second, is the larger score, the
    first one on a tie. -/
theorem reducer_at (a b : EReal) (k n : ℕ) (hk : k < n) (hn : n < 10000) :
    (reducer_argmax_f32_i32 (F := Ideal) ((a, BitVec.ofNat 32 k) : Ideal .f32 × BitVec 32) (b, BitVec.ofNat 32 n))
      = if a < b then (b, BitVec.ofNat 32 n) else (a, BitVec.ofNat 32 k) := by
  have h6 : IntOp.cmpi .slt (BitVec.ofNat 32 k) (BitVec.ofNat 32 n) = 1#1 := by
    show BitVec.ofBool ((BitVec.ofNat 32 k).slt (BitVec.ofNat 32 n)) = 1#1
    rw [bit_iff, BitVec.slt, decide_eq_true_iff, toInt_ofNat_of_lt (by omega), toInt_ofNat_of_lt (by omega)]
    exact_mod_cast hk
  have h3 : Ideal.cmp .une a a = 0#1 := by simp [Ideal.cmp]
  unfold reducer_argmax_f32_i32
  simp only [Ideal.cmpf_def, h6, h3]
  rcases lt_trichotomy a b with h | h | h
  · have h2 : Ideal.cmp .ogt a b = 0#1 := by simp [Ideal.cmp, not_lt.2 h.le]
    have h5 : Ideal.cmp .oeq a b = 0#1 := by simp [Ideal.cmp, h.ne]
    rw [h2, h5, if_pos h]; rfl
  · subst h
    have h2 : Ideal.cmp .ogt a a = 0#1 := by simp [Ideal.cmp]
    have h5 : Ideal.cmp .oeq a a = 1#1 := by simp [Ideal.cmp]
    rw [h2, h5, if_neg (lt_irrefl _)]; rfl
  · have h2 : Ideal.cmp .ogt a b = 1#1 := (cmp_gt _ _).2 h
    have h5 : Ideal.cmp .oeq a b = 0#1 := by simp [Ideal.cmp, h.ne']
    rw [h2, h5, if_neg (not_lt.2 h.le)]; rfl

/-- Against the search's first pair, the first box wins. -/
theorem reducer_first (b : EReal) :
    (reducer_argmax_f32_i32 (F := Ideal) ((Ideal.ofBits .f32 0xFF800000#32, 0#32) : Ideal .f32 × BitVec 32) (b, 0#32)) = (b, 0#32) := by
  have hb : Ideal.ofBits .f32 0xFF800000#32 = ⊥ := bot_eq
  have h3 : Ideal.cmp .une (⊥ : EReal) ⊥ = 0#1 := by simp [Ideal.cmp]
  have h2 : Ideal.cmp .ogt (⊥ : EReal) b = 0#1 := by simp [Ideal.cmp]
  have h6 : IntOp.cmpi .slt (0#32) (0#32) = 0#1 := by decide
  unfold reducer_argmax_f32_i32
  simp only [Ideal.cmpf_def, h6, hb, h3, h2]
  rcases (by decide : ∀ x : BitVec 1, x = 0#1 ∨ x = 1#1) (Ideal.cmp .oeq (⊥ : EReal) b) with h | h <;> rw [h] <;> rfl

/-- Over the first `n + 1` boxes the search holds the first largest score and its number. -/
theorem fold_top (f : ℕ → EReal) (n : ℕ) (hn : n < 10000) :
    ∃ w, IsTop (n + 1) f w ∧ ((List.range (n + 1)).map fun k => ((f k, BitVec.ofNat 32 k) : Ideal .f32 × BitVec 32)).foldl
      (reducer_argmax_f32_i32 (F := Ideal)) (Ideal.ofBits .f32 0xFF800000#32, 0#32) = (f w, BitVec.ofNat 32 w) := by
  induction n with
  | zero => exact ⟨0, ⟨by omega, fun j hj => by obtain rfl : j = 0 := by omega
                                                exact ⟨le_rfl, fun h => absurd h (lt_irrefl _)⟩⟩, reducer_first _⟩
  | succ n ih =>
    obtain ⟨w, hw, e⟩ := ih (by omega)
    rw [List.range_succ, List.map_append, List.foldl_append, e]
    show ∃ w', _ ∧ reducer_argmax_f32_i32 (F := Ideal) (f w, BitVec.ofNat 32 w) (f (n + 1), BitVec.ofNat 32 (n + 1)) = _
    rw [reducer_at _ _ _ _ hw.1 hn]
    by_cases hl : f w < f (n + 1)
    · refine ⟨n + 1, ⟨by omega, fun j hj => ?_⟩, by rw [if_pos hl]⟩
      by_cases hj' : j = n + 1
      · subst hj'; exact ⟨le_rfl, fun h => absurd h (lt_irrefl _)⟩
      · have := (hw.2 j (by omega)).1.trans_lt hl
        exact ⟨this.le, fun _ => this⟩
    · refine ⟨w, ⟨by have := hw.1; omega, fun j hj => ?_⟩, by rw [if_neg hl]⟩
      by_cases hj' : j = n + 1
      · subst hj'; exact ⟨not_lt.1 hl, fun h => absurd hw.1 (by omega)⟩
      · exact hw.2 j (by omega)

/-- The reference's search finds the first largest score. -/
theorem search_top (x : FVec Ideal S10000 .f32) (j : S_.Idx) :
    ∃ w, IsTop 10000 (fun n => x (spot n)) w
      ∧ (Host.argReduce reducer_argmax_f32_i32 x (iotaInDim S10000 32 0) (constant (F := Ideal) S_ .f32 0xFF800000#32) (constantI S_ 32 0#32)
          reducesTo_S10000_S_d0 h_S_ j).2 = BitVec.ofNat 32 w := by
  obtain ⟨w, hw, e⟩ := fold_top (fun n => x (spot n)) 9999 (by decide)
  refine ⟨w, hw, ?_⟩
  rw [Ideal.argReduce_eq_reduce2, Host.reduce2_eq_foldl_fiber]
  have hl : Host.argReduceFiber x (iotaInDim S10000 32 0) reducesTo_S10000_S_d0 j
      = (List.range (9999 + 1)).map fun k => (x (spot k), BitVec.ofNat 32 k) := by
    unfold Host.argReduceFiber
    rw [List.filter_eq_self.2 fun n _ => decide_eq_true (funext fun a => a.elim0 : _ = j), ← Routing.map_finRange_val]
    refine List.map_congr_left fun n _ => ?_
    rw [Routing.symm1 n]
    have hn : n.val < 10000 := n.isLt
    have : (ValueIdx.ix1 (n.cast (Routing.numel1 10000)) : S10000.Idx) = spot n.val := congrArg ValueIdx.ix1 (Fin.ext (Nat.mod_eq_of_lt hn).symm)
    rw [this]
    refine Prod.ext rfl ?_
    show BitVec.ofNat 32 (n.val % 10000) = _
    rw [Nat.mod_eq_of_lt hn]
  rw [hl]
  exact congrArg Prod.snd e

/-! ## Writing at one box -/

/-- A scatter of one value changes that one place. -/
theorem scatter_at {α : Type} (x : S10000.Idx → α) (idx : IVec S1 32) (v : S_.Idx → α) (w : ℕ) (hw : w < 10000) (h : (idx (ValueIdx.ix1 0)).toInt = (w : Int))
    (n : ℕ) (hn : n < 10000) :
    Host.scatter scatter_S10000_S1_S__n_0_0_0 (fun _ b => b) x idx v (spot n) = if n = w then v ValueIdx.ix0 else x (spot n) := by
  have land : ∀ e : Fin 10000, scatter_S10000_S1_S__n_0_0_0.resultIdx? ValueIdx.ix0 idx = some (ValueIdx.ix1 e) ↔ e = ⟨w, hw⟩ :=
    Routing.lands_one scatter_S10000_S1_S__n_0_0_0 rfl rfl idx ⟨w, hw⟩ h
  have hs : spot n = ValueIdx.ix1 ⟨n, hn⟩ := congrArg ValueIdx.ix1 (Fin.ext (Nat.mod_eq_of_lt hn))
  rw [hs]
  split
  · rename_i e
    refine Routing.scatter_set_hit _ x idx v _ _ (fun j _ => congrArg v (ValueIdx.eq_ix0 j)) ValueIdx.ix0 ((land _).2 (Fin.ext e))
  · rename_i e
    refine Routing.scatter_set_miss _ x idx v _ fun j hj => e ?_
    rw [ValueIdx.eq_ix0 j] at hj
    exact congrArg Fin.val ((land _).1 hj)

/-! ## The decays -/

/-- The scores, the mask and the boxes as the loop carries them. -/
abbrev scoresIn (V : Valuation τ sig (Elt Ideal)) : FVec Ideal S10000 .f32 := V (Proc.devRef .tc main_v5_3)
@[inherit_doc scoresIn] abbrev maskedIn (V : Valuation τ sig (Elt Ideal)) : FVec Ideal S10000 .f32 := V (Proc.devRef .tc main_while0b_v13)
@[inherit_doc scoresIn] abbrev decaysIn (V : Valuation τ sig (Elt Ideal)) : FVec Ideal S10000 .f32 := V (Proc.devRef .tc main_while0b_v87)
@[inherit_doc scoresIn] abbrev factorsIn (V : Valuation τ sig (Elt Ideal)) : FVec Ideal S10000 .f32 := V (Proc.devRef .tc main_while0b_v88)
@[inherit_doc scoresIn] abbrev maskIn (V : Valuation τ sig (Elt Ideal)) : IVec S10000 1 := V (Proc.devRef .tc main_v5_4)
@[inherit_doc scoresIn] abbrev boxesIn (V : Valuation τ sig (Elt Ideal)) : FVec Ideal S10000x4 .f32 := V (Proc.devRef .tc main_v5_0)

/-- The index that the reference wraps when it is negative is the index. -/
theorem wrapped (i : IVec S_ 32) (w : ℕ) (hw : w < 10000) (h : i = fun _ => BitVec.ofNat 32 w) (a : IVec S_ 32) (j : S_.Idx) :
    BitVec.toInt (select (cmpi .slt i (constantI S_ 32 0#32)) a i j) = (w : Int) := by
  have hi : (i j).toInt = (w : Int) := by rw [h]; exact toInt_ofNat_of_lt (by omega)
  rw [select_slt_zero_of_nonneg _ _ _ _ (by rw [hi]; omega), hi]

/-- Box `n` of a list of boxes. -/
def boxR (b : FVec Ideal S10000x4 .f32) (n : ℕ) : Box := ⟨b (cell n 0), b (cell n 1), b (cell n 2), b (cell n 3)⟩

/-- An index by row and coordinate. -/
theorem cell_of (w : ℕ) (hw : w < 10000) (k : Fin 4) : (Idealize.ShloMosaic.ix2 ⟨w, hw⟩ k : S10000x4.Idx) = cell w k :=
  congrArg (Idealize.ShloMosaic.ix2 · k) (Fin.ext (Nat.mod_eq_of_lt hw).symm)

/-- The decays that the reference measures from the box whose number it found. -/
theorem measure_at (V : Valuation τ sig (Elt Ideal)) (w : ℕ) (hw : w < 10000) (h : V (Proc.devRef .tc main_while0b_v14) = fun _ => BitVec.ofNat 32 w) (n : ℕ) :
    decaysIn (after measure V) (spot n) = decayR (boxR (boxesIn V) w) (boxR (boxesIn V) n) := by
  show after measure V (Proc.devRef .tc main_while0b_v87) (spot n) = _
  have hoff : S10000x4.Slices ![w, 0] S1x4 := ⟨rfl, fun a => by fin_cases a <;> simp <;> omega⟩
  after_reads_simp [unaryIndexed_result_read, indexContents_cons, indexContents_empty]
  rw [Host.dynamicSlice_eq_extractStridedSlice (off := ![w, 0]) (hoff := hoff)]
  · clean_types
    pointwise
    have e : boxR (boxesIn V) w = ⟨boxesIn V (Idealize.ShloMosaic.ix2 ⟨w, hw⟩ 0), boxesIn V (Idealize.ShloMosaic.ix2 ⟨w, hw⟩ 1),
        boxesIn V (Idealize.ShloMosaic.ix2 ⟨w, hw⟩ 2), boxesIn V (Idealize.ShloMosaic.ix2 ⟨w, hw⟩ 3)⟩ := by
      unfold boxR
      rw [cell_of, cell_of, cell_of, cell_of]
    rw [e, decayR, iou, Box.area, Box.area, inter, epsC, halfC, boxR, ← Ideal.ofBits_zero_f32]
    rfl
  · intro a
    refine Fin.cases ?_ (fun b => ?_) a
    · show BitVec.toInt (select (cmpi .slt (V (Proc.devRef .tc main_while0b_v14)) (constantI S_ 32 0#32)) _ (V (Proc.devRef .tc main_while0b_v14)) (Shape.Idx.first h_S_)) = (w : Int)
      rw [wrapped _ w hw h]
    · obtain rfl : b = 0 := Subsingleton.elim _ _
      rfl

/-- The chosen box is masked from the next search on, and the scores of the others decay. -/
theorem record_scores (V : Valuation τ sig (Elt Ideal)) (w : ℕ) (hw : w < 10000) (h : V (Proc.devRef .tc main_while0b_v14) = fun _ => BitVec.ofNat 32 w) (n : ℕ) (hn : n < 10000) :
    scoresIn (after record V) (spot n)
      = scoresIn V (spot n) * (if n = w then 1 else factorsIn V (spot n)) := by
  unfold scoresIn factorsIn
  after_reads_simp
  refine congrArg (fun y : EReal => @HMul.hMul EReal EReal EReal _ (scoresIn V (spot n)) y) ?_
  refine (scatter_at (α := Ideal .f32) _ _ _ w hw ?_ n hn).trans (if_congr Iff.rfl one_eq rfl)
  show BitVec.toInt (select (cmpi .slt (V (Proc.devRef .tc main_while0b_v14)) (constantI S_ 32 0#32)) _ (V (Proc.devRef .tc main_while0b_v14)) _) = (w : Int)
  rw [wrapped _ w hw h]

/-- The step adds its pick to the chosen boxes. -/
theorem record_mask (V : Valuation τ sig (Elt Ideal)) (w : ℕ) (hw : w < 10000) (h : V (Proc.devRef .tc main_while0b_v14) = fun _ => BitVec.ofNat 32 w) (n : ℕ) (hn : n < 10000) :
    maskIn (after record V) (spot n) = (if n = w then 1#1 else maskIn V (spot n)) := by
  unfold maskIn
  after_reads_simp
  refine scatter_at _ _ _ w hw ?_ n hn
  show BitVec.toInt (select (cmpi .slt (V (Proc.devRef .tc main_while0b_v14)) (constantI S_ 32 0#32)) _ (V (Proc.devRef .tc main_while0b_v14)) _) = (w : Int)
  rw [wrapped _ w hw h]

/-- The masked score of a box: minus infinity if it is chosen, its score if not. -/
theorem mask_at (V : Valuation τ sig (Elt Ideal)) (n : ℕ) (hc : V (Proc.devRef .tc main_while0b_cst_9) = constant (F := Ideal) S_ .f32 0xFF800000#32) :
    maskedIn (after mask V) (spot n) = if maskIn V (spot n) = 1#1 then ⊥ else scoresIn V (spot n) := by
  unfold maskIn scoresIn maskedIn
  after_reads_simp
  refine (select_at _ _ _ _).trans (if_congr Iff.rfl ?_ rfl)
  rw [hc]
  exact bot_eq

/-- The search finds the first largest masked score. -/
theorem search_at (V : Valuation τ sig (Elt Ideal)) : ∃ w, IsTop 10000 (fun n => maskedIn V (spot n)) w
      ∧ after search V (Proc.devRef .tc main_while0b_v14) = fun _ => BitVec.ofNat 32 w := by
  obtain ⟨w, hw, e⟩ := search_top (V (Proc.devRef .tc main_while0b_v13)) ValueIdx.ix0
  refine ⟨w, hw, funext fun j => ?_⟩
  obtain rfl : j = ValueIdx.ix0 := ValueIdx.eq_ix0 j
  after_reads_simp
  exact e

/-- The decay of a box: 1 if it is chosen, the computed one if not. -/
theorem unmask_at (V : Valuation τ sig (Elt Ideal)) (n : ℕ) (hc : V (Proc.devRef .tc main_while0b_cst_22) = constant (F := Ideal) S_ .f32 0x3F800000#32) :
    factorsIn (after unmask V) (spot n) = if maskIn V (spot n) = 1#1 then 1 else decaysIn V (spot n) := by
  unfold maskIn factorsIn decaysIn
  after_reads_simp
  refine (select_at _ _ _ _).trans (if_congr Iff.rfl ?_ rfl)
  rw [hc]
  exact one_eq

/-! ## Before and after the loop -/

/-- The two lists of rows, one after the other. -/
def rows (a b : FVec Ideal S5000x14 .f32) : FVec Ideal S10000x14 .f32 :=
  concatenate S10000x14 0 [⟨S5000x14, a⟩, ⟨S5000x14, b⟩] concatenates_S5000x14_S5000x14_S10000x14_d0

/-- The place of column `k` of row `n`. -/
def entry (n : ℕ) (k : Fin 14) : S10000x14.Idx := ValueIdx.ix2 ⟨n % 10000, Nat.mod_lt _ (by decide)⟩ k

/-- Before the loop the two inputs are joined. -/
theorem setUp_rows (V : Valuation τ sig (Elt Ideal)) :
    after setUp V (Proc.devRef .tc main_v0) = rows (V (Proc.devRef .tc main_arg0)) (V (Proc.devRef .tc main_arg1)) := by
  after_reads_simp
  rfl

/-- The boxes are columns 2 to 5 of the joined rows. -/
theorem setUp_boxes (V : Valuation τ sig (Elt Ideal)) (n : ℕ) (k : Fin 4) :
    boxesIn (after setUp V) (cell n k) = rows (V (Proc.devRef .tc main_arg0)) (V (Proc.devRef .tc main_arg1)) (entry n ⟨2 + k.val, by omega⟩) := by
  unfold boxesIn
  after_reads_simp
  show extractStridedSlice S10000x4 ![0, 2] (rows _ _) _ _ = _
  refine congrArg (rows _ _) (funext fun a => Fin.ext ?_)
  fin_cases a
  · exact Nat.zero_add _
  · rfl

/-- The scores are column 13 of the joined rows. -/
theorem setUp_scores (V : Valuation τ sig (Elt Ideal)) (n : ℕ) :
    scoresIn (after setUp V) (spot n) = rows (V (Proc.devRef .tc main_arg0)) (V (Proc.devRef .tc main_arg1)) (entry n 13) := by
  unfold scoresIn
  after_reads_simp
  show shapeCast S10000 (extractStridedSlice S10000x1 ![0, 13] (rows _ _) _) _ _ = _
  refine (Routing.cast21 _ _ ⟨n % 10000, Nat.mod_lt _ (by decide)⟩ 0 _ (by show n % 10000 = n % 10000 * 1 + 0; omega)).trans ?_
  refine congrArg (rows _ _) (funext fun a => Fin.ext ?_)
  fin_cases a
  · exact Nat.zero_add _
  · rfl

/-- No box is chosen at the start. -/
theorem setUp_mask (V : Valuation τ sig (Elt Ideal)) (n : ℕ) : maskIn (after setUp V) (spot n) = 0#1 := by
  unfold maskIn
  after_reads_simp
  rfl

/-- Writing a column at one number. -/
theorem column_at (x : FVec Ideal S10000x14 .f32) (idx : IVec S1 32) (v : FVec Ideal S10000 .f32) (h : (idx (ValueIdx.ix1 0)).toInt = 13) (n : ℕ) (k : Fin 14) :
    Host.scatter scatter_S10000x14_S1_S10000_0_1_1_0 (fun _ b => b) x idx v (entry n k) = if k = 13 then v (spot n) else x (entry n k) := by
  have land := fun w' w e => Routing.lands_col scatter_S10000x14_S1_S10000_0_1_1_0 rfl rfl idx 13 h w' w e
  split
  · rename_i e
    refine Routing.scatter_set_hit _ x idx v _ _ (fun j hj => ?_) (spot n) ((land _ _ _).2 ⟨rfl, e⟩)
    rw [ValueIdx.eq_ix1 j] at hj ⊢
    exact congrArg (fun t => v (ValueIdx.ix1 t)) ((land _ _ _).1 hj).1
  · rename_i e
    refine Routing.scatter_set_miss _ x idx v _ fun j hj => e ?_
    rw [ValueIdx.eq_ix1 j] at hj
    exact ((land _ _ _).1 hj).2

/-- After the loop: a row over the threshold with its last score, and zero for the others. -/
theorem finish_at (V : Valuation τ sig (Elt Ideal)) (n : ℕ) (k : Fin 14) :
    (after blank (after threshold V) (Proc.devRef .tc main_v11) : FVec Ideal S10000x14 .f32) (entry n k)
      = if thresh < scoresIn V (spot n) then (if k = 13 then scoresIn V (spot n) else (V (Proc.devRef .tc main_v0) : FVec Ideal S10000x14 .f32) (entry n k)) else 0 := by
  unfold scoresIn
  after_reads_simp
  simp -implicitDefEqProofs only [StableHlo.TRef.toBuf, StableHlo.TRef.ofBuf, cast_cast, cast_eq]
  refine (select_at _ _ _ _).trans (if_congr ?_ ?_ ?_)
  · refine Iff.trans ?_ (cmp_gt _ _)
    show FloatOps.cmpf (F := Ideal) (φ := .f32) .ogt (V (Proc.devRef .tc main_v5_3) _) (FloatOps.ofBits (F := Ideal) .f32 1045220557#32) = 1#1 ↔ _
    rw [Ideal.cmpf_def, Ideal.ofBits_def, ← thresh]
    refine Iff.of_eq (congrArg (fun i => Ideal.cmp .ogt (V (Proc.devRef .tc main_v5_3) i) thresh = 1#1) (funext fun a => ?_))
    obtain rfl : a = 0 := Subsingleton.elim _ _
    rfl
  · have hk : ((broadcastInDim S1 ![] bcast_S_S1 (constantI S_ 32 13#32) : IVec S1 32) (ValueIdx.ix1 0)).toInt = 13 := by
      show (13#32).toInt = 13
      decide
    exact column_at (V (Proc.devRef .tc main_v0)) _ (V (Proc.devRef .tc main_v5_3)) hk n k
  · exact Ideal.ofBits_zero_f32

end Cert.ReferenceIdeal.Run
-- ==== Proof.Nms.RefStep.lean ====
/-
  One trip of the reference's loop is one step of picking one box at a time.
-/
module

public import proofs.«01_k».proof.Proof.Nms.RefVal
public import proofs.«01_k».proof.Proof.Nms.Batch

@[expose] public section

noncomputable section

namespace Cert.ReferenceIdeal.Run

open Idealize.ShloMosaic Idealize.ShloMosaic.TcCoe Idealize.ShloMosaic.StableHlo
open Cert.ReferenceIdeal.Gen Cert.Nms

/-- The boxes the loop has chosen so far. -/
def chosenIn (V : Valuation τ sig (Elt Ideal)) : Finset ℕ := (Finset.range 10000).filter fun n => maskIn V (spot n) = 1#1

/-- A box is chosen if its mask is 1. -/
theorem mem_chosenIn (V : Valuation τ sig (Elt Ideal)) {n : ℕ} (hn : n < 10000) : n ∈ chosenIn V ↔ maskIn V (spot n) = 1#1 := by
  unfold chosenIn
  rw [Finset.mem_filter, Finset.mem_range]
  exact ⟨fun h => h.2, fun h => ⟨hn, h⟩⟩

/-- Being the first largest depends on the values below the bound only. -/
theorem IsTop.of_eq {n : ℕ} {f g : ℕ → EReal} {w : ℕ} (h : IsTop n f w) (e : ∀ j < n, f j = g j) : IsTop n g w :=
  ⟨h.1, fun j hj => by rw [← e j hj, ← e w h.1]; exact h.2 j hj⟩

/-- The value that masks a chosen box is minus infinity. -/
theorem prepare_low (V : Valuation τ sig (Elt Ideal)) :
    after prepare V (Proc.devRef .tc main_while0b_cst_9) = constant (F := Ideal) S_ .f32 0xFF800000#32 := by
  after_reads_simp

/-- The factor that spares a chosen box is 1. -/
theorem measure_one (V : Valuation τ sig (Elt Ideal)) :
    after measure V (Proc.devRef .tc main_while0b_cst_22) = constant (F := Ideal) S_ .f32 0x3F800000#32 := by
  after_reads_simp

/-- A buffer that a trip writes only as it ends keeps its contents until then. -/
theorem carried (V : Valuation τ sig (Elt Ideal)) (b : Ref sig .tc) (h : ∀ W ∈ [prepare_W, mask_W, search_W, measure_W, unmask_W], b ∉ W) :
    after prepare V (Proc.devRef .tc b) = V (Proc.devRef .tc b)
    ∧ after mask (after prepare V) (Proc.devRef .tc b) = V (Proc.devRef .tc b)
    ∧ after search (after mask (after prepare V)) (Proc.devRef .tc b) = V (Proc.devRef .tc b)
    ∧ after measure (after search (after mask (after prepare V))) (Proc.devRef .tc b) = V (Proc.devRef .tc b)
    ∧ after unmask (after measure (after search (after mask (after prepare V)))) (Proc.devRef .tc b) = V (Proc.devRef .tc b) := by
  have h1 := after_of_writes_sub prepare (V) prepare_writes (h _ (.head _))
  have h2 := (after_of_writes_sub mask (after prepare V) mask_writes (h _ (.tail _ (.head _)))).trans h1
  have h3 := (after_of_writes_sub search (after mask (after prepare V)) search_writes (h _ (.tail _ (.tail _ (.head _))))).trans h2
  have h4 := (after_of_writes_sub measure (after search (after mask (after prepare V))) measure_writes
    (h _ (.tail _ (.tail _ (.tail _ (.head _)))))).trans h3
  exact ⟨h1, h2, h3, h4, (after_of_writes_sub unmask (after measure (after search (after mask (after prepare V)))) unmask_writes
    (h _ (.tail _ (.tail _ (.tail _ (.tail _ (.head _))))))).trans h4⟩

/-- One trip is one step. -/
theorem trip_step (V : Valuation τ sig (Elt Ideal)) (box : ℕ → Box) (ho : ∀ n, (box n).Ordered) (hb : ∀ n < 10000, boxR (boxesIn V) n = box n) :
    Step sizes (decays box ho) (fun x => scoresIn V (spot x)) (chosenIn V)
      (fun x => scoresIn (afterL tripItems V) (spot x)) (chosenIn (afterL tripItems V)) := by
  obtain ⟨s1, s2, s3, s4, s5⟩ := carried V main_v5_3 (by decide +kernel)
  obtain ⟨k1, k2, k3, k4, k5⟩ := carried V main_v5_4 (by decide +kernel)
  obtain ⟨-, -, b3, -, -⟩ := carried V main_v5_0 (by decide +kernel)
  obtain ⟨w, hw, hv⟩ := search_at (after mask (after prepare V))
  have hw' : w < 10000 := hw.1
  have v4 := (after_of_writes_sub (r := main_while0b_v14) measure (after search (after mask (after prepare V))) measure_writes (by decide +kernel)).trans hv
  have v5 := (after_of_writes_sub (r := main_while0b_v14) unmask (after measure (after search (after mask (after prepare V)))) unmask_writes (by decide +kernel)).trans v4
  have e : afterL tripItems V = after record (after unmask (after measure (after search (after mask (after prepare V))))) := by
    simp only [afterL_cons, afterL_nil]
  rw [e]
  refine ⟨w, IsTop.of_eq hw fun n hn => ?_, fun n hn => ?_, ?_⟩
  · rw [mask_at _ n (prepare_low V)]
    refine if_congr ?_ rfl ?_
    · rw [mem_chosenIn V hn]
      exact Iff.of_eq (congrArg (fun x : IVec S10000 1 => x (spot n) = 1#1) k1)
    · exact congrArg (fun x : FVec Ideal S10000 .f32 => x (spot n)) s1
  · have hn' : n < 10000 := hn
    show scoresIn _ (spot n) = _
    rw [record_scores _ w hw' v5 n hn', unmask_at _ n (measure_one _), measure_at _ w hw' hv n]
    have es : scoresIn (after unmask (after measure (after search (after mask (after prepare V))))) = scoresIn V := s5
    have ek : maskIn (after measure (after search (after mask (after prepare V)))) = maskIn V := k4
    have eb : boxesIn (after search (after mask (after prepare V))) = boxesIn V := b3
    rw [es, ek, eb, hb w hw', hb n hn', decayR_eq (ho w) (ho n)]
    have hm := mem_chosenIn V hn'
    by_cases h1 : n = w
    · rw [if_pos h1, if_pos (Or.inr h1 : n ∈ chosenIn V ∨ n = w), mul_one]
    · rw [if_neg h1]
      by_cases h2 : maskIn V (spot n) = 1#1
      · rw [if_pos h2, if_pos (Or.inl (hm.2 h2) : n ∈ chosenIn V ∨ n = w), mul_one]
      · rw [if_neg h2, if_neg (fun h => h.elim (fun h => h2 (hm.1 h)) h1 : ¬ (n ∈ chosenIn V ∨ n = w))]
        rfl
  · ext n
    by_cases hn : n < 10000
    · rw [mem_chosenIn _ hn, record_mask _ w hw' v5 n hn, Finset.mem_insert, mem_chosenIn V hn]
      have ek : maskIn (after unmask (after measure (after search (after mask (after prepare V))))) = maskIn V := k5
      rw [ek]
      by_cases h1 : n = w
      · rw [if_pos h1]; exact ⟨fun _ => .inl h1, fun _ => rfl⟩
      · rw [if_neg h1]; exact ⟨.inr, fun h => h.resolve_left h1⟩
    · unfold chosenIn
      rw [Finset.mem_insert, Finset.mem_filter, Finset.mem_filter, Finset.mem_range]
      exact ⟨fun h => absurd h.1 hn, fun h => h.elim (fun h => absurd (h ▸ hw') hn) fun h => absurd h.1 hn⟩

variable (m : (ℓ : Loc nD τ sig) → Buf (Elt Ideal) ℓ)

/-- The rows the program is given on a device. -/
def given (c : Dev nD) : FVec Ideal S10000x14 .f32 :=
  rows (m ((c.tc : Thread nD τ).loc main_arg0)) (m ((c.tc : Thread nD τ).loc main_arg1))

/-- Box `n` of the rows. -/
def boxOf (x : FVec Ideal S10000x14 .f32) (n : ℕ) : Box := ⟨x (entry n 2), x (entry n 3), x (entry n 4), x (entry n 5)⟩

/-- The boxes stay the given ones through the steps. -/
theorem boxes_kept (c : Dev nD) (k : ℕ) (n : ℕ) : boxR (boxesIn (atTest m k c)) n = boxOf (given m c) n := by
  have e : boxesIn (atTest m k c) = boxesIn (after setUp (launchContents m c)) := trips_keep m c main_v5_0 (by decide +kernel) k
  rw [e]
  unfold boxR
  rw [setUp_boxes, setUp_boxes, setUp_boxes, setUp_boxes]
  rfl

/-- The joined rows stay the given ones through the steps. -/
theorem rows_kept (c : Dev nD) (k : ℕ) : atTest m k c (Proc.devRef .tc main_v0) = given m c :=
  (trips_keep m c main_v0 (by decide +kernel) k).trans (setUp_rows _)

/-- The reference's loop as steps. -/
def run (c : Dev nD) (box : ℕ → Box) (ho : ∀ n, (box n).Ordered) (hb : ∀ n < 10000, boxOf (given m c) n = box n) : Nms.Run sizes (decays box ho) where
  s k x := scoresIn (atTest m k c) (spot x)
  S k := chosenIn (atTest m k c)
  start := by
    refine Finset.eq_empty_of_forall_notMem fun n h => ?_
    unfold chosenIn at h
    have h0 := (Finset.mem_filter.1 h).2
    have := setUp_mask (launchContents m c) n
    exact absurd (this.symm.trans h0) (by decide)
  step k := by
    have hs : scoresIn (after testOps (atTest m k c)) = scoresIn (atTest m k c) := after_of_writes_sub _ _ testOps_writes (by decide +kernel)
    have hk : maskIn (after testOps (atTest m k c)) = maskIn (atTest m k c) := after_of_writes_sub _ _ testOps_writes (by decide +kernel)
    have hx : boxesIn (after testOps (atTest m k c)) = boxesIn (atTest m k c) := after_of_writes_sub _ _ testOps_writes (by decide +kernel)
    have := trip_step (after testOps (atTest m k c)) box ho fun n hn => by rw [hx, boxes_kept]; exact hb n hn
    rw [hs] at this
    have hc : chosenIn (after testOps (atTest m k c)) = chosenIn (atTest m k c) := by unfold chosenIn; rw [hk]
    rw [hc] at this
    exact this

/-- The scores the loop starts from. -/
theorem run_start (c : Dev nD) (box : ℕ → Box) (ho : ∀ n, (box n).Ordered) (hb : ∀ n < 10000, boxOf (given m c) n = box n) (n : ℕ) :
    (run m c box ho hb).s 0 n = given m c (entry n 13) := setUp_scores _ n

/-- The program's result, given by the scores the loop ends with. -/
theorem result_entry (c : Dev nD) (box : ℕ → Box) (ho : ∀ n, (box n).Ordered) (hb : ∀ n < 10000, boxOf (given m c) n = box n) (n : ℕ) (k : Fin 14) :
    (finalContents testOps beforeItems tripItems afterItems 10000 m c (Proc.devRef .tc main_v11) : FVec Ideal S10000x14 .f32) (entry n k)
      = if thresh < (run m c box ho hb).s 10000 n then (if k = 13 then (run m c box ho hb).s 10000 n else given m c (entry n k)) else 0 := by
  have hs : scoresIn (after testOps (atTest m 10000 c)) = scoresIn (atTest m 10000 c) := after_of_writes_sub _ _ testOps_writes (by decide +kernel)
  have hr : after testOps (atTest m 10000 c) (Proc.devRef .tc main_v0) = given m c :=
    (after_of_writes_sub _ _ testOps_writes (by decide +kernel)).trans (rows_kept m c 10000)
  refine (finish_at (after testOps (atTest m 10000 c)) n k).trans ?_
  rw [hs, hr]
  rfl

end Cert.ReferenceIdeal.Run
-- ==== Proof.Nms.Blocks.lean ====
/-
  The kernel's windows are whole arrays: what it finds in them and where its result goes.
-/
module

public import proofs.«01_k».proof.Proof.Nms.IdealRun
public import Idealize.ShloMosaic.Lib.Pipeline.ValueKit.Geometry

@[expose] public section

set_option maxRecDepth 16384

noncomputable section

namespace Cert.KernelIdeal.Run

open Cert.KernelIdeal.Gen Cert.Nms
open Idealize.ShloMosaic Idealize.ShloMosaic.TcCoe Idealize.ShloMosaic.Tactic
open Idealize.ShloMosaic.StableHlo (after)
open Idealize.ShloMosaic.Pipeline

variable {F : FTy → Type} [FloatOps F] (m : (ℓ : Loc nD τ sig) → Buf (Elt F) ℓ)

/-! ### The kernel's blocks are the arrays laid out for it -/

/-- The kernel's input 0 is the whole array of the x1 coordinates. -/
theorem block0 (c : Dev nD) (t : Fin (cfg0 (F := F)).N) : block m c 0 t = started m c main_call0_v15 := by
  unfold block
  funext y
  refine congrArg (started m c main_call0_v15) (funext fun a => Fin.ext ?_)
  blk_simp
  exact (congrArg (· + _) (Nat.zero_mul _)).trans (Nat.zero_add _)

/-- The kernel's input 1 is the whole array of the y1 coordinates. -/
theorem block1 (c : Dev nD) (t : Fin (cfg0 (F := F)).N) : block m c 1 t = started m c main_call0_v27 := by
  unfold block
  funext y
  refine congrArg (started m c main_call0_v27) (funext fun a => Fin.ext ?_)
  blk_simp
  exact (congrArg (· + _) (Nat.zero_mul _)).trans (Nat.zero_add _)

/-- The kernel's input 2 is the whole array of the x2 coordinates. -/
theorem block2 (c : Dev nD) (t : Fin (cfg0 (F := F)).N) : block m c 2 t = started m c main_call0_v39 := by
  unfold block
  funext y
  refine congrArg (started m c main_call0_v39) (funext fun a => Fin.ext ?_)
  blk_simp
  exact (congrArg (· + _) (Nat.zero_mul _)).trans (Nat.zero_add _)

/-- The kernel's input 3 is the whole array of the y2 coordinates. -/
theorem block3 (c : Dev nD) (t : Fin (cfg0 (F := F)).N) : block m c 3 t = started m c main_call0_v51 := by
  unfold block
  funext y
  refine congrArg (started m c main_call0_v51) (funext fun a => Fin.ext ?_)
  blk_simp
  exact (congrArg (· + _) (Nat.zero_mul _)).trans (Nat.zero_add _)

/-- The kernel's input 4 is the whole array of the scores. -/
theorem block4 (c : Dev nD) (t : Fin (cfg0 (F := F)).N) : block m c 4 t = started m c main_call0_v61 := by
  unfold block
  funext y
  refine congrArg (started m c main_call0_v61) (funext fun a => Fin.ext ?_)
  blk_simp
  exact (congrArg (· + _) (Nat.zero_mul _)).trans (Nat.zero_add _)

end Cert.KernelIdeal.Run
-- ==== Proof.Nms.Agree.lean ====
/-
  The kernel's program and the reference's end with the same result.
-/
module

public import proofs.«01_k».proof.Proof.Nms.Host
public import proofs.«01_k».proof.Proof.Nms.Order
public import proofs.«01_k».proof.Proof.Nms.RefStep
public import proofs.«01_k».proof.Proof.Nms.Blocks

@[expose] public section

set_option maxRecDepth 16384

noncomputable section

namespace Cert.KernelIdeal.Run

open Cert.KernelIdeal.Gen Cert.Nms
open Idealize.ShloMosaic Idealize.ShloMosaic.TcCoe Idealize.ShloMosaic.Tactic
open Idealize.ShloMosaic.StableHlo (after)
open Idealize.ShloMosaic.Pipeline

variable (m : (ℓ : Loc nD τ sig) → Buf (Elt Ideal) ℓ)

/-- The array that the kernel's result is written to. -/
theorem written (c : Dev nD) (t : Fin (cfg0 (F := Ideal)).N) : (data m 0 c).arrAt 5 (cfg0 (F := Ideal)).N = outcome m c t := by
  refine (data m 0 c).arrAt_eq_of_after_last 5 t (by revert t; decide +kernel) _ fun j => ?_
  rw [left5]
  generalize outcome m c t = G
  rfl

/-- The two inputs joined, as the program finds them. -/
def given0 (c : Dev nD) : FVec Ideal S10000x14 .f32 := joined (m ((c.tc : Thread nD τ).loc main_arg0)) (m ((c.tc : Thread nD τ).loc main_arg1))

/-- A column laid out for the kernel, read by box number. -/
theorem column_laid (f : Fin 80 → BitVec 32) (hf : ∀ r, f r = lit0 r) (v : FVec Ideal S10000 .f32) (n : ℕ) (hn : n < 10240) :
    byKey (laid (fun i => f (S80.rowMajor i)) v) n = if h : n < 10000 then v (ValueIdx.ix1 ⟨n, h⟩) else 0 :=
  laid_at _ (fun r => ((table_at f r).trans (hf r)).trans (row_table r)) v n hn

/-! The five columns as the kernel holds them. -/

def x1In (c : Dev nD) : FVec Ideal A80 .f32 := started m c main_call0_v15
def y1In (c : Dev nD) : FVec Ideal A80 .f32 := started m c main_call0_v27
def x2In (c : Dev nD) : FVec Ideal A80 .f32 := started m c main_call0_v39
def y2In (c : Dev nD) : FVec Ideal A80 .f32 := started m c main_call0_v51
def scoreIn (c : Dev nD) : FVec Ideal A80 .f32 := started m c main_call0_v61

/-- The kernel's first corner x at a box number: column 2 of the joined rows, and zero past their end. -/
theorem x1_at (c : Dev nD) (n : ℕ) (hn : n < 10240) :
    byKey (x1In m c) n = if h : n < 10000 then given0 m c (ValueIdx.ix2 ⟨n, h⟩ 2) else 0 :=
  ((congrArg (byKey · n) (x1_of _)).trans (column_laid lit0 (fun _ => rfl) _ n hn)).trans (dite_congr rfl (fun h => corner_at _ 0 (by omega) _ n h) fun _ => rfl)

/-- The first corner's y: column 3, and zero past the end. -/
theorem y1_at (c : Dev nD) (n : ℕ) (hn : n < 10240) :
    byKey (y1In m c) n = if h : n < 10000 then given0 m c (ValueIdx.ix2 ⟨n, h⟩ 3) else 0 :=
  ((congrArg (byKey · n) (y1_of _)).trans (column_laid lit1 (fun r => (same_tables r).1) _ n hn)).trans (dite_congr rfl (fun h => corner_at _ 1 (by omega) _ n h) fun _ => rfl)

/-- The second corner's x: column 4, and zero past the end. -/
theorem x2_at (c : Dev nD) (n : ℕ) (hn : n < 10240) :
    byKey (x2In m c) n = if h : n < 10000 then given0 m c (ValueIdx.ix2 ⟨n, h⟩ 4) else 0 :=
  ((congrArg (byKey · n) (x2_of _)).trans (column_laid lit2 (fun r => (same_tables r).2.1) _ n hn)).trans (dite_congr rfl (fun h => corner_at _ 2 (by omega) _ n h) fun _ => rfl)

/-- The second corner's y: column 5, and zero past the end. -/
theorem y2_at (c : Dev nD) (n : ℕ) (hn : n < 10240) :
    byKey (y2In m c) n = if h : n < 10000 then given0 m c (ValueIdx.ix2 ⟨n, h⟩ 5) else 0 :=
  ((congrArg (byKey · n) (y2_of _)).trans (column_laid lit3 (fun r => (same_tables r).2.2.1) _ n hn)).trans (dite_congr rfl (fun h => corner_at _ 3 (by omega) _ n h) fun _ => rfl)

/-- The score: column 13, and zero past the end. -/
theorem score_in (c : Dev nD) (n : ℕ) (hn : n < 10240) :
    byKey (scoreIn m c) n = if h : n < 10000 then given0 m c (ValueIdx.ix2 ⟨n, h⟩ 13) else 0 :=
  ((congrArg (byKey · n) (score_of _)).trans (column_laid lit4 (fun r => (same_tables r).2.2.2) _ n hn)).trans (dite_congr rfl (fun h => score_at _ n h) fun _ => rfl)

/-- The boxes as the kernel holds them. -/
def geo (c : Dev nD) : Geo Ideal := geoOf (x1In m c) (y1In m c) (x2In m c) (y2In m c)

/-- A box of the four coordinate arrays holds their values at its number. -/
theorem boxAt_of (x1 y1 x2 y2 : FVec Ideal A80 .f32) (n : ℕ) : boxAt (geoOf x1 y1 x2 y2) n = ⟨byKey x1 n, byKey y1 n, byKey x2 n, byKey y2 n⟩ := rfl

/-- A box's number is below 10240, whatever number it is asked for by. -/
theorem byKey_wrap (x : FVec Ideal A80 .f32) (n : ℕ) : byKey x n = byKey x (key (pos n)) := congrArg x (pos_key (pos n)).symm

/-- A box of the input. -/
theorem box_real (c : Dev nD) (n : ℕ) (hn : n < 10000) :
    boxAt (geo m c) n = ⟨given0 m c (ValueIdx.ix2 ⟨n, hn⟩ 2), given0 m c (ValueIdx.ix2 ⟨n, hn⟩ 3), given0 m c (ValueIdx.ix2 ⟨n, hn⟩ 4), given0 m c (ValueIdx.ix2 ⟨n, hn⟩ 5)⟩ := by
  have h : n < 10240 := by omega
  unfold geo
  rw [boxAt_of, x1_at m c n h, y1_at m c n h, x2_at m c n h, y2_at m c n h, dif_pos hn, dif_pos hn, dif_pos hn, dif_pos hn]

/-- A box beyond the input. -/
theorem box_pad (c : Dev nD) (n : ℕ) (h0 : ¬ n < 10000) (h : n < 10240) : boxAt (geo m c) n = ⟨0, 0, 0, 0⟩ := by
  unfold geo
  rw [boxAt_of, x1_at m c n h, y1_at m c n h, x2_at m c n h, y2_at m c n h, dif_neg h0, dif_neg h0, dif_neg h0, dif_neg h0]

/-- A number past the last box names the box at its own place. -/
theorem boxAt_wrap (x1 y1 x2 y2 : FVec Ideal A80 .f32) (n : ℕ) : boxAt (geoOf x1 y1 x2 y2) n = boxAt (geoOf x1 y1 x2 y2) (key (pos n)) := by
  rw [boxAt_of, boxAt_of, ← byKey_wrap, ← byKey_wrap, ← byKey_wrap, ← byKey_wrap]

/-- If every box is in order, the geometry built from the coordinates is as the batches need it. -/
theorem sound_of (x1 y1 x2 y2 : FVec Ideal A80 .f32) (h : ∀ n, (boxAt (geoOf x1 y1 x2 y2) n).Ordered) : Sound (geoOf x1 y1 x2 y2) :=
  ⟨rfl, fun _ => rfl, h⟩

/-- Under the precondition every box the kernel holds has its corners in order. -/
theorem sound [Cert.Pre_boxes_ordered.Facts] (c : Dev nD)
    (hpre : Cert.Pre_boxes_ordered.fn (F := Ideal) (m ((c.tc : Thread nD τ).loc main_arg0)) (m ((c.tc : Thread nD τ).loc main_arg1)) = fun _ => 1#1) : Sound (geo m c) := by
  refine sound_of _ _ _ _ fun n => ?_
  have hk := key_lt (pos n)
  rw [boxAt_wrap]
  generalize key (pos n) = k at hk ⊢
  by_cases h0 : k < 10000
  · exact (congrArg Box.Ordered (box_real m c k h0)).mpr (joined_ordered _ _ hpre k h0)
  · exact (congrArg Box.Ordered (box_pad m c k h0 hk)).mpr ⟨le_rfl, le_rfl⟩

/-- The program's result. -/
def ended (c : Dev nD) : Buf (Elt Ideal) ((c.tc : Thread nD τ).loc main_v0) :=
  Pipeline.afterTail₀ (cfgs (F := Ideal)) (data m) 0 (atStart m) [hostOps1] c main_v0

/-- The kernel's result array. -/
abbrev found (c : Dev nD) : FVec Ideal A80 .f32 :=
  result (x1In m c) (y1In m c) (x2In m c) (y2In m c) (scoreIn m c)

/-- The whole program's result at a row and a column: the row with its final score if its value is marked as kept, and zero otherwise. -/
theorem ended_at (c : Dev nD) (n : ℕ) (hn : n < 10000) (k : Fin 14) :
    (ended m c : FVec Ideal S10000x14 .f32) (ValueIdx.ix2 ⟨n, hn⟩ k)
      = if byKey (found m c) n < -thresh then (if k = 13 then -byKey (found m c) n else given0 m c (ValueIdx.ix2 ⟨n, hn⟩ k)) else 0 := by
  have hne : ∀ w, Pipeline.arrRef spec0 w ≠ main_call0_v0 := by exact (by decide : ∀ w, Pipeline.arrRef spec0 w ≠ main_call0_v0)
  have hne' : ∀ w, Pipeline.arrRef spec0 w ≠ main_call0_c_4 := by exact (by decide : ∀ w, Pipeline.arrRef spec0 w ≠ main_call0_c_4)
  have hr : Pipeline.withArrays spec0 c (atStart m c) (fun w => (data m 0 c).arrAt w (cfg0 (F := Ideal)).N) (Proc.devRef .tc main_call0_v62) = found m c := by
    refine (Pipeline.withArrays_arr spec0 (by decide) c (atStart m c) _ 5).trans ((written m c ⟨0, by decide⟩).trans ?_)
    unfold outcome
    rw [block0, block1, block2, block3, block4]
    unfold found x1In y1In x2In y2In scoreIn
    rfl
  have hj := (Pipeline.withArrays_of_ne spec0 c (atStart m c) (fun w => (data m 0 c).arrAt w (cfg0 (F := Ideal)).N) main_call0_v0 hne).trans (joined_of _)
  have ht := (Pipeline.withArrays_of_ne spec0 c (atStart m c) (fun w => (data m 0 c).arrAt w (cfg0 (F := Ideal)).N) main_call0_c_4 hne').trans (back_of _)
  have h := final_at (Pipeline.withArrays spec0 c (atStart m c) (fun w => (data m 0 c).arrAt w (cfg0 (F := Ideal)).N)) ht n hn k
  rw [hr, hj] at h
  exact h

end Cert.KernelIdeal.Run
-- ==== Proof.Nms.Equal.lean ====
/-
  Under the precondition the two programs' results are one array.
-/
module

public import proofs.«01_k».proof.Proof.Nms.Agree
public import proofs.«01_k».proof.Proof.Nms.RefStep

@[expose] public section

set_option maxRecDepth 16384

noncomputable section

namespace Cert.Nms

open Idealize.ShloMosaic Idealize.ShloMosaic.TcCoe
open Cert.KernelIdeal.Run (given0 geo sound ended ended_at found box_real scoreIn score_in x1In y1In x2In y2In)
open Cert.ReferenceIdeal.Run (entry boxOf)

/-- The entry of a row below the last is the index with that row. -/
theorem entry_of (n : ℕ) (hn : n < 10000) (k : Fin 14) : entry n k = ValueIdx.ix2 ⟨n, hn⟩ k :=
  congrArg (ValueIdx.ix2 · k) (Fin.ext (Nat.mod_eq_of_lt hn))

/-- The last step on either side: keeping a score that is over the threshold is keeping a value that is under its
    negation. -/
theorem keep_eq (b s x : EReal) (k : Fin 14) (h : (b = -s ∧ thresh < s) ∨ (s ≤ thresh ∧ 0 ≤ b ∧ b ≤ thresh)) :
    (if thresh < s then (if k = 13 then s else x) else 0) = if b < -thresh then (if k = 13 then -b else x) else 0 := by
  rcases h with ⟨rfl, h⟩ | ⟨h1, h2, _⟩
  · rw [if_pos h, if_pos (EReal.neg_lt_neg_iff.mpr h), neg_neg]
  · have hn : -thresh < 0 := by
      have := EReal.neg_lt_neg_iff.mpr thresh_pos
      rwa [neg_zero] at this
    rw [if_neg (not_lt.mpr h1), if_neg (not_lt.mpr (hn.le.trans h2))]

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- What the reference is given is what the kernel's program is given. -/
theorem given_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Run.given m' c = given0 m c := by
  unfold Cert.ReferenceIdeal.Run.given given0
  rw [h0, h1]
  rfl

/-- The reference's result, entry by entry, is the kernel's program's. -/
theorem results_agree [Cert.Pre_boxes_ordered.Facts] (c : Dev Cert.KernelIdeal.nD)
    (hpre : Cert.Pre_boxes_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) = fun _ => 1#1)
    (hg : Cert.ReferenceIdeal.Run.given m' c = given0 m c) (n : ℕ) (hn : n < 10000) (k : Fin 14) :
    (StableHlo.finalContents Cert.ReferenceIdeal.Run.testOps Cert.ReferenceIdeal.Run.beforeItems Cert.ReferenceIdeal.Run.tripItems Cert.ReferenceIdeal.Run.afterItems 10000 m' c (Proc.devRef .tc Cert.ReferenceIdeal.main_v11)
        : FVec Ideal Cert.ReferenceIdeal.S10000x14 .f32) (entry n k)
      = (ended m c : FVec Ideal Cert.KernelIdeal.S10000x14 .f32) (ValueIdx.ix2 ⟨n, hn⟩ k) := by
  have hs := sound m c hpre
  have hb : ∀ i < 10000, boxOf (Cert.ReferenceIdeal.Run.given m' c) i = boxAt (geo m c) i := fun i hi => by
    rw [hg, box_real m c i hi]
    unfold boxOf
    rw [entry_of i hi, entry_of i hi, entry_of i hi, entry_of i hi]
  have h := result_at hs (Cert.ReferenceIdeal.Run.run m' c (boxAt (geo m c)) hs.ordered hb) (x1In m c) (y1In m c) (x2In m c) (y2In m c) (scoreIn m c) rfl
    (fun x hx => (Cert.ReferenceIdeal.Run.run_start m' c _ hs.ordered hb x).trans (by rw [hg, entry_of x hx, score_in m c x (by omega), dif_pos hx]))
    (fun x h1 h2 => by rw [score_in m c x h2, dif_neg (by omega)]; exact thresh_pos.le) n hn
  rw [Cert.ReferenceIdeal.Run.result_entry m' c (boxAt (geo m c)) hs.ordered hb n k, ended_at m c n hn k, hg, entry_of n hn]
  exact keep_eq _ _ _ k h

end Cert.Nms
-- ==== Proof.lean ====
module

public import proofs.«01_k».proof.Defs
public import proofs.«01_k».proof.Proof.Nms.BitsRun
public import proofs.«01_k».proof.Proof.Nms.IdealRun
public import proofs.«01_k».proof.Proof.Nms.RefRun
public import proofs.«01_k».proof.Proof.Nms.Equal

/-! The whole claim, from the runs of the three programs and the equality of the two results. -/

@[expose] public section

noncomputable section

namespace Cert.Proof

open Idealize.ShloMosaic Idealize.ShloMosaic.TcCoe Idealize.SL.Sem

/-- The slices and the reshape that the precondition names fit their arrays. -/
theorem ordered_facts : Cert.Pre_boxes_ordered.Facts := by constructor <;> decide +kernel

attribute [local instance] ordered_facts

section Equality

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- From equal arguments whose boxes are in order, the two programs end with one array. -/
theorem one_result (c : Dev Cert.KernelIdeal.nD)
    (hpre : Cert.Pre_boxes_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.finalContents Cert.ReferenceIdeal.Run.testOps Cert.ReferenceIdeal.Run.beforeItems Cert.ReferenceIdeal.Run.tripItems Cert.ReferenceIdeal.Run.afterItems 10000 m' c (Proc.devRef .tc Cert.ReferenceIdeal.main_v11)
        : FVec Ideal Cert.KernelIdeal.S10000x14 .f32)
      = (Cert.KernelIdeal.Run.ended m c : FVec Ideal Cert.KernelIdeal.S10000x14 .f32) := by
  funext i
  rw [ValueIdx.eq_ix2 i]
  exact (congrArg _ (Cert.Nms.entry_of (i 0).val (i 0).isLt (i 1)).symm).trans
    (Cert.Nms.results_agree m m' c hpre (Cert.Nms.given_eq m m' c h0 h1) (i 0).val (i 0).isLt (i 1))

end Equality

/-- The kernel's program and the reference compute the same array wherever every box is in order. -/
theorem same_results : Cert.algebraic_KernelIdeal_ReferenceIdeal_pre_boxes_ordered (hKernelIdeal := Cert.KernelIdeal.Gen.facts)
    (hReferenceIdeal := Cert.ReferenceIdeal.Gen.facts) (hPre_boxes_ordered := ordered_facts) := by
  intro m g m' g' hpre hargs
  refine ⟨fun c => Cert.KernelIdeal.Run.ended m c, ?_, ?_⟩
  · exact (θ_run (Cert.KernelIdeal.defs (F := Ideal)) _ _).mono (fun _ h c =>
      ⟨(h.1 c).2 Cert.KernelIdeal.main_v0 (Pipeline.mem_restRefs_of Cert.KernelIdeal.main_v0 (by decide)
          (by exact (by decide : ∀ w, Pipeline.arrRef Cert.KernelIdeal.spec0 w ≠ Cert.KernelIdeal.main_v0))),
        ((h.1 c).2 Cert.KernelIdeal.main_arg0 (Pipeline.mem_restRefs_of Cert.KernelIdeal.main_arg0 (by decide)
          (by exact (by decide : ∀ w, Pipeline.arrRef Cert.KernelIdeal.spec0 w ≠ Cert.KernelIdeal.main_arg0)))).trans
          (Cert.KernelIdeal.Run.ended_arg0 m (Cert.KernelIdeal.Run.data m) c),
        ((h.1 c).2 Cert.KernelIdeal.main_arg1 (Pipeline.mem_restRefs_of Cert.KernelIdeal.main_arg1 (by decide)
          (by exact (by decide : ∀ w, Pipeline.arrRef Cert.KernelIdeal.spec0 w ≠ Cert.KernelIdeal.main_arg1)))).trans
          (Cert.KernelIdeal.Run.ended_arg1 m (Cert.KernelIdeal.Run.data m) c)⟩)
      (Cert.KernelIdeal.Run.run_all m g)
  · exact θ_run_mono (Cert.ReferenceIdeal.Run.run_all m' g') (fun r h c =>
      ⟨(h c Cert.ReferenceIdeal.main_v11 rfl).trans (one_result m m' c (hpre c) (hargs c).1 (hargs c).2),
        (h c Cert.ReferenceIdeal.main_arg0 rfl).trans (Cert.ReferenceIdeal.Run.ends_arg0 m' c),
        (h c Cert.ReferenceIdeal.main_arg1 rfl).trans (Cert.ReferenceIdeal.Run.ends_arg1 m' c)⟩)

/-- Every program runs to its end leaving its arguments alone, and the two results are equal. -/
theorem claim : Cert.Claim := ⟨Cert.Kernel.Gen.facts, Cert.KernelIdeal.Gen.facts, Cert.ReferenceIdeal.Gen.facts, ordered_facts,
  fun m ρ _ => Cert.Kernel.Run.frame m ρ, fun m ρ _ => Cert.KernelIdeal.Run.frame m ρ, fun m ρ _ => Cert.KernelIdeal.Run.frame m ρ,
  fun m ρ _ => Cert.ReferenceIdeal.Run.frame m ρ, fun m ρ _ => Cert.ReferenceIdeal.Run.frame m ρ, trivial, same_results⟩

end Cert.Proof

end
